-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ok [hPre_ok : Cert.Pre_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ok [hPre_ok : Cert.Pre_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ok [hKernelIdeal : Cert.KernelIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ok [hReferenceIdeal : Cert.ReferenceIdeal.Facts] [hPre_ok : Cert.Pre_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "above" .f32 0x7149F2CA#32 ⊤

def algebraic_KernelIdeal_ReferenceIdeal_pre_ok [hKernelIdeal : Cert.KernelIdeal.Facts] [hReferenceIdeal : Cert.ReferenceIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v106_0)) (v1 : (c : Dev Cert.KernelIdeal.nD) → Buf (Elt Ideal) ((c.tc : Thread Cert.KernelIdeal.nD Cert.KernelIdeal.τ).loc Cert.KernelIdeal.main_v106_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106_0) = v0 c
          ∧ r.2.mem ((c.tc : Thread Cert.KernelIdeal.nD Cert.KernelIdeal.τ).loc Cert.KernelIdeal.main_v106_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38_0) = v0 c
          ∧ r.2.mem ((c.tc : Thread Cert.ReferenceIdeal.nD Cert.ReferenceIdeal.τ).loc Cert.ReferenceIdeal.main_v38_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ok : Cert.Pre_ok.Facts),
    quiescent_Kernel (hKernel := hKernel)
    ∧ quiescent_KernelIdeal (hKernelIdeal := hKernelIdeal)
    ∧ quiescent_KernelIdeal_pre_ok (hKernelIdeal := hKernelIdeal) (hPre_ok := hPre_ok)
    ∧ quiescent_ReferenceIdeal (hReferenceIdeal := hReferenceIdeal)
    ∧ quiescent_ReferenceIdeal_pre_ok (hReferenceIdeal := hReferenceIdeal) (hPre_ok := hPre_ok)
    ∧ preserves_Kernel_KernelIdeal
    ∧ algebraic_KernelIdeal_ReferenceIdeal_pre_ok (hKernelIdeal := hKernelIdeal) (hReferenceIdeal := hReferenceIdeal) (hPre_ok := hPre_ok)
-- ==== Pre_ok.lean ====
abbrev S2x1024x8192 : Shape := ⟨3, ![2, 1024, 8192]⟩
abbrev S2x1024 : Shape := ⟨2, ![2, 1024]⟩
abbrev S400 : Shape := ⟨1, ![400]⟩
abbrev S2 : Shape := ⟨1, ![2]⟩
abbrev S2x1024x256 : Shape := ⟨3, ![2, 1024, 256]⟩
abbrev S1024x128 : Shape := ⟨2, ![1024, 128]⟩
abbrev S_ : Shape := ⟨0, ![]⟩

class Facts : Prop where
  bcast_S_S2x1024x8192 : S_.BroadcastsInDim S2x1024x8192 (![] : Fin 0 → Fin S2x1024x8192.rank)
  reducesTo_S2x1024x8192_S_d0_1_2 : S2x1024x8192.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S400 : S_.BroadcastsInDim S400 (![] : Fin 0 → Fin S400.rank)
  reducesTo_S400_S_d0 : S400.ReducesTo [0] S_
  bcast_S_S2 : S_.BroadcastsInDim S2 (![] : Fin 0 → Fin S2.rank)
  reducesTo_S2_S_d0 : S2.ReducesTo [0] S_
  bcast_S_S2x1024x256 : S_.BroadcastsInDim S2x1024x256 (![] : Fin 0 → Fin S2x1024x256.rank)
  reducesTo_S2x1024x256_S_d0_1_2 : S2x1024x256.ReducesTo [0, 1, 2] S_
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_arg5 : FVec F S2 .f32) (main_arg6 : FVec F S2x1024x256 .f32) (main_arg7 : FVec F S1024x128 .f32) (main_v12 : IVec S_ 1) (main_v15 : IVec S_ 1) : IVec S_ 1 :=
  let main_v16 : IVec S_ 1 := andi main_v12 main_v15
  let main_v17 : FVec F S2 .f32 := Host.absf main_arg5
  let main_cst_6 : FVec F S_ .f32 := constant S_ .f32 0x7F800000#32
  let main_v18 : FVec F S2 .f32 := broadcastInDim S2 ![] bcast_S_S2 main_cst_6
  let main_v19 : IVec S2 1 := cmpf .olt main_v17 main_v18
  let main_c_7 : IVec S_ 1 := constantI S_ 1 1#1
  let main_v20 : IVec S_ 1 := (fun x v => Host.reduce IntOp.andi x v reducesTo_S2_S_d0 h_S_) main_v19 main_c_7
  let main_v21 : IVec S_ 1 := andi main_v16 main_v20
  let main_v22 : FVec F S2x1024x256 .f32 := Host.absf main_arg6
  let main_cst_8 : FVec F S_ .f32 := constant S_ .f32 0x7F800000#32
  let main_v23 : FVec F S2x1024x256 .f32 := broadcastInDim S2x1024x256 ![] bcast_S_S2x1024x256 main_cst_8
  let main_v24 : IVec S2x1024x256 1 := cmpf .olt main_v22 main_v23
  let main_c_9 : IVec S_ 1 := constantI S_ 1 1#1
  let main_v25 : IVec S_ 1 := (fun x v => Host.reduce IntOp.andi x v reducesTo_S2x1024x256_S_d0_1_2 h_S_) main_v24 main_c_9
  let main_v26 : IVec S_ 1 := andi main_v21 main_v25
  let main_v27 : FVec F S1024x128 .f32 := Host.absf main_arg7
  let main_cst_10 : FVec F S_ .f32 := constant S_ .f32 0x7F800000#32
  let main_v28 : FVec F S1024x128 .f32 := broadcastInDim S1024x128 ![] bcast_S_S1024x128 main_cst_10
  let main_v29 : IVec S1024x128 1 := cmpf .olt main_v27 main_v28
  let main_c_11 : IVec S_ 1 := constantI S_ 1 1#1
  let main_v30 : IVec S_ 1 := (fun x v => Host.reduce IntOp.andi x v reducesTo_S1024x128_S_d0_1 h_S_) main_v29 main_c_11
  let main_v31 : IVec S_ 1 := andi main_v26 main_v30
  main_v31

def fn {F : FTy → Type} [FloatOps F] (main_arg0 : FVec F S2x1024x8192 .f32) (main_arg1 : FVec F S2x1024 .f32) (main_arg2 : IVec S400 32) (main_arg3 : IVec S2 32) (main_arg4 : IVec S2 32) (main_arg5 : FVec F S2 .f32) (main_arg6 : FVec F S2x1024x256 .f32) (main_arg7 : FVec F S1024x128 .f32) : IVec S_ 1 :=
  let main_v0 : FVec F S2x1024x8192 .f32 := Host.absf main_arg0
  let main_cst : FVec F S_ .f32 := constant S_ .f32 0x7F800000#32
  let main_v1 : FVec F S2x1024x8192 .f32 := broadcastInDim S2x1024x8192 ![] bcast_S_S2x1024x8192 main_cst
  let main_v2 : IVec S2x1024x8192 1 := cmpf .olt main_v0 main_v1
  let main_c : IVec S_ 1 := constantI S_ 1 1#1
  let main_v3 : IVec S_ 1 := (fun x v => Host.reduce IntOp.andi x v reducesTo_S2x1024x8192_S_d0_1_2 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_cst_2 : FVec F S_ .f32 := constant S_ .f32 0x00000000#32
  let main_v9 : FVec F S2x1024 .f32 := broadcastInDim S2x1024 ![] bcast_S_S2x1024 main_cst_2
  let main_v10 : IVec S2x1024 1 := cmpf .oge main_arg1 main_v9
  let main_c_3 : IVec S_ 1 := constantI S_ 1 1#1
  let main_v11 : IVec S_ 1 := (fun x v => Host.reduce IntOp.andi x v reducesTo_S2x1024_S_d0_1 h_S_) main_v10 main_c_3
  let main_v12 : IVec S_ 1 := andi main_v8 main_v11
  let main_c_4 : IVec S_ 32 := constantI S_ 32 8192#32
  let main_v13 : IVec S400 32 := broadcastInDim S400 ![] bcast_S_S400 main_c_4
  let main_v14 : IVec S400 1 := cmpi .slt main_arg2 main_v13
  let main_c_5 : IVec S_ 1 := constantI S_ 1 1#1
  let main_v15 : IVec S_ 1 := (fun x v => Host.reduce IntOp.andi x v reducesTo_S400_S_d0 h_S_) main_v14 main_c_5
  fn_part1 (F := F) main_arg5 main_arg6 main_arg7 main_v12 main_v15
-- ==== Kernel.lean ====
abbrev S2x1024x8192 : Shape := ⟨3, ![2, 1024, 8192]⟩
abbrev S2x1024 : Shape := ⟨2, ![2, 1024]⟩
abbrev S400 : Shape := ⟨1, ![400]⟩
abbrev S2 : Shape := ⟨1, ![2]⟩
abbrev S2x1024x256 : Shape := ⟨3, ![2, 1024, 256]⟩
abbrev S1024x128 : Shape := ⟨2, ![1024, 128]⟩
abbrev S256 : Shape := ⟨1, ![256]⟩
abbrev S_ : Shape := ⟨0, ![]⟩
abbrev S1x256 : Shape := ⟨2, ![1, 256]⟩
abbrev S2x1 : Shape := ⟨2, ![2, 1]⟩
abbrev S2x256 : Shape := ⟨2, ![2, 256]⟩
abbrev S2x256x1 : Shape := ⟨3, ![2, 256, 1]⟩
abbrev S2x1x256 : Shape := ⟨3, ![2, 1, 256]⟩
abbrev S2x256x256 : Shape := ⟨3, ![2, 256, 256]⟩
abbrev S2x1024x1 : Shape := ⟨3, ![2, 1024, 1]⟩
abbrev S2x1024x128 : Shape := ⟨3, ![2, 1024, 128]⟩
abbrev S2x8192x256 : Shape := ⟨3, ![2, 8192, 256]⟩
abbrev S2x8192 : Shape := ⟨2, ![2, 8192]⟩
abbrev S2x1x8192 : Shape := ⟨3, ![2, 1, 8192]⟩
abbrev S2x16x8192 : Shape := ⟨3, ![2, 16, 8192]⟩
abbrev S1x128x8192 : Shape := ⟨3, ![1, 128, 8192]⟩
abbrev S1x128x256 : Shape := ⟨3, ![1, 128, 256]⟩
abbrev S1x128x128 : Shape := ⟨3, ![1, 128, 128]⟩
abbrev S128x128 : Shape := ⟨2, ![128, 128]⟩
abbrev S1x256x256 : Shape := ⟨3, ![1, 256, 256]⟩
abbrev S1x1x256 : Shape := ⟨3, ![1, 1, 256]⟩
abbrev S1x8192x256 : Shape := ⟨3, ![1, 8192, 256]⟩
abbrev S1x16x8192 : Shape := ⟨3, ![1, 16, 8192]⟩
abbrev S1 : Shape := ⟨1, ![1]⟩
abbrev S128x1 : Shape := ⟨2, ![128, 1]⟩
abbrev S128x256 : Shape := ⟨2, ![128, 256]⟩
abbrev S256x256 : Shape := ⟨2, ![256, 256]⟩
abbrev S128 : Shape := ⟨1, ![128]⟩
abbrev S128x8192 : Shape := ⟨2, ![128, 8192]⟩

abbrev nBuf : Space → Nat
  | .hbm => 163
  | .vmem => 22
  | .smem => 2
  | _ => 0

abbrev hbmTy0_0 (i : Nat) : BufTy := match i % 128 with
  | 0 => ⟨S2x1024x8192, .f32⟩
  | 1 => ⟨S2x1024, .f32⟩
  | 2 => ⟨S400, .i32⟩
  | 3 => ⟨S2, .i32⟩
  | 4 => ⟨S2, .i32⟩
  | 5 => ⟨S2, .f32⟩
  | 6 => ⟨S2x1024x256, .f32⟩
  | 7 => ⟨S1024x128, .f32⟩
  | 8 => ⟨S256, .i32⟩
  | 9 => ⟨S2x1024x8192, .fp8e4m3⟩
  | 10 => ⟨S_, .i32⟩
  | 11 => ⟨S_, .i32⟩
  | 12 => ⟨S2, .i32⟩
  | 13 => ⟨S2, .i32⟩
  | 14 => ⟨S1x256, .i32⟩
  | 15 => ⟨S2x1, .i32⟩
  | 16 => ⟨S2x256, .i32⟩
  | 17 => ⟨S2x256, .i32⟩
  | 18 => ⟨S2x256, .i1⟩
  | 19 => ⟨S2x1, .i32⟩
  | 20 => ⟨S1x256, .i32⟩
  | 21 => ⟨S2x256, .i32⟩
  | 22 => ⟨S2x256, .i32⟩
  | 23 => ⟨S2x256, .i32⟩
  | 24 => ⟨S_, .i32⟩
  | 25 => ⟨S_, .i32⟩
  | 26 => ⟨S_, .i32⟩
  | 27 => ⟨S2x256, .i32⟩
  | 28 => ⟨S2x256, .i32⟩
  | 29 => ⟨S_, .i32⟩
  | 30 => ⟨S2x256, .i32⟩
  | 31 => ⟨S2x256, .i32⟩
  | 32 => ⟨S_, .i32⟩
  | 33 => ⟨S2x256, .i32⟩
  | 34 => ⟨S2x256, .i1⟩
  | 35 => ⟨S_, .i32⟩
  | 36 => ⟨S2x256, .i32⟩
  | 37 => ⟨S2x256, .i32⟩
  | 38 => ⟨S2x256, .i32⟩
  | 39 => ⟨S2x256x1, .i32⟩
  | 40 => ⟨S2x256, .i32⟩
  | 41 => ⟨S_, .i32⟩
  | 42 => ⟨S256, .i32⟩
  | 43 => ⟨S256, .i1⟩
  | 44 => ⟨S_, .i32⟩
  | 45 => ⟨S_, .i32⟩
  | 46 => ⟨S2x256, .i32⟩
  | 47 => ⟨S2x256, .i32⟩
  | 48 => ⟨S_, .i32⟩
  | 49 => ⟨S_, .i32⟩
  | 50 => ⟨S2x256, .i1⟩
  | 51 => ⟨S2x256, .i32⟩
  | 52 => ⟨S2x256, .i32⟩
  | 53 => ⟨S2x256x1, .i32⟩
  | 54 => ⟨S2x1x256, .i32⟩
  | 55 => ⟨S2x256x256, .i32⟩
  | 56 => ⟨S2x256x256, .i32⟩
  | 57 => ⟨S2x256x256, .i1⟩
  | 58 => ⟨S2x256x256, .i32⟩
  | 59 => ⟨S_, .i1⟩
  | 60 => ⟨S_, .i32⟩
  | 61 => ⟨S2x256, .i1⟩
  | 62 => ⟨S2x256, .i32⟩
  | 63 => ⟨S256, .i32⟩
  | 64 => ⟨S1x256, .i32⟩
  | 65 => ⟨S2x256, .i32⟩
  | 66 => ⟨S2x256, .i1⟩
  | 67 => ⟨S_, .i32⟩
  | 68 => ⟨S2x256, .i32⟩
  | 69 => ⟨S2x256, .i1⟩
  | 70 => ⟨S2x256, .i1⟩
  | 71 => ⟨S2x256, .f32⟩
  | 72 => ⟨S2x1x256, .f32⟩
  | 73 => ⟨S2x256x256, .bf16⟩
  | 74 => ⟨S_, .f32⟩
  | 75 => ⟨S_, .f32⟩
  | 76 => ⟨S2x1024, .f32⟩
  | 77 => ⟨S2x1024, .f32⟩
  | 78 => ⟨S2x1024x1, .f32⟩
  | 79 => ⟨S2x1024x128, .f32⟩
  | 80 => ⟨S2x8192x256, .i32⟩
  | 81 => ⟨S2x1x256, .i32⟩
  | 82 => ⟨S2x8192x256, .i32⟩
  | 83 => ⟨S2x8192x256, .i1⟩
  | 84 => ⟨S_, .f32⟩
  | 85 => ⟨S_, .f32⟩
  | 86 => ⟨S2x8192x256, .f32⟩
  | 87 => ⟨S2x8192x256, .f32⟩
  | 88 => ⟨S2x8192x256, .f32⟩
  | 89 => ⟨S2x8192x256, .fp8e4m3⟩
  | 90 => ⟨S2x8192x256, .f32⟩
  | 91 => ⟨S_, .f32⟩
  | 92 => ⟨S2x8192, .f32⟩
  | 93 => ⟨S_, .f32⟩
  | 94 => ⟨S2x8192, .f32⟩
  | 95 => ⟨S2x8192, .i1⟩
  | 96 => ⟨S_, .f32⟩
  | 97 => ⟨S_, .f32⟩
  | 98 => ⟨S2x8192, .f32⟩
  | 99 => ⟨S2x8192, .f32⟩
  | 100 => ⟨S2x8192, .f32⟩
  | 101 => ⟨S2x1x8192, .f32⟩
  | 102 => ⟨S2x1024x1, .f32⟩
  | 103 => ⟨S2x1024x8192, .f32⟩
  | 104 => ⟨S2x1024x8192, .f32⟩
  | 105 => ⟨S_, .f32⟩
  | 106 => ⟨S2x1024, .f32⟩
  | 107 => ⟨S2x1024x1, .f32⟩
  | 108 => ⟨S2x1024x8192, .f32⟩
  | 109 => ⟨S2x1024x8192, .f32⟩
  | 110 => ⟨S2x1024x8192, .f32⟩
  | 111 => ⟨S_, .f32⟩
  | 112 => ⟨S2x1024, .f32⟩
  | 113 => ⟨S2x1024x1, .f32⟩
  | 114 => ⟨S2x1024x1, .f32⟩
  | 115 => ⟨S2x1024x1, .f32⟩
  | 116 => ⟨S2x1024x1, .f32⟩
  | 117 => ⟨S2x1024x1, .f32⟩
  | 118 => ⟨S2x1x8192, .f32⟩
  | 119 => ⟨S2x1024x8192, .f32⟩
  | 120 => ⟨S2x1024x8192, .f32⟩
  | 121 => ⟨S_, .f32⟩
  | 122 => ⟨S2x1024, .f32⟩
  | 123 => ⟨S2x1024x1, .f32⟩
  | 124 => ⟨S2x1024x256, .f32⟩
  | 125 => ⟨S2x1024x1, .f32⟩
  | 126 => ⟨S2x1x256, .i1⟩
  | 127 => ⟨S2x1024x256, .f32⟩
  | _ => ⟨S2x1024x8192, .f32⟩

abbrev hbmTy0_1 (i : Nat) : BufTy := match i % 128 with
  | 0 => ⟨S2x1024x256, .f32⟩
  | 1 => ⟨S2x1024x1, .f32⟩
  | 2 => ⟨S2x1024x256, .f32⟩
  | 3 => ⟨S2x1024x256, .f32⟩
  | 4 => ⟨S_, .f32⟩
  | 5 => ⟨S_, .f32⟩
  | 6 => ⟨S2x1024x256, .i1⟩
  | 7 => ⟨S2x1024x256, .f32⟩
  | 8 => ⟨S2x1024x256, .f32⟩
  | 9 => ⟨S2x1024x128, .i32⟩
  | 10 => ⟨S_, .i32⟩
  | 11 => ⟨S2x1024x128, .i32⟩
  | 12 => ⟨S2x1024x128, .i1⟩
  | 13 => ⟨S_, .i32⟩
  | 14 => ⟨S2x1024x128, .i32⟩
  | 15 => ⟨S2x1024x128, .i1⟩
  | 16 => ⟨S2x1024x128, .f32⟩
  | 17 => ⟨S2x1024x128, .f32⟩
  | 18 => ⟨S2x1024x128, .f32⟩
  | 19 => ⟨S2x1024x128, .f32⟩
  | 20 => ⟨S_, .i32⟩
  | 21 => ⟨S2x1024x128, .i32⟩
  | 22 => ⟨S2x1024x128, .i1⟩
  | 23 => ⟨S2x1024x128, .f32⟩
  | 24 => ⟨S2x1024x128, .f32⟩
  | 25 => ⟨S2x1024x128, .f32⟩
  | 26 => ⟨S2x1024x128, .f32⟩
  | 27 => ⟨S2x1024x128, .f32⟩
  | 28 => ⟨S2x1024x128, .f32⟩
  | 29 => ⟨S2x1024x128, .f32⟩
  | 30 => ⟨S2x1024x128, .f32⟩
  | 31 => ⟨S2x16x8192, .f32⟩
  | 32 => ⟨S2x16x8192, .bf16⟩
  | 33 => ⟨S2x1024x8192, .fp8e5m2⟩
  | 34 => ⟨S2x1024x128, .f32⟩
  | _ => ⟨S2x1024x8192, .f32⟩

abbrev hbmTy (i : Nat) : BufTy := match i / 128 with
  | 0 => hbmTy0_0 i
  | 1 => hbmTy0_1 i
  | _ => ⟨S2x1024x8192, .f32⟩

abbrev bufTy : (tb : Table) → Fin (tcTables nBuf tb) → BufTy
  | .hbm, ⟨i, _⟩ => hbmTy i
  | .local _ .vmem, ⟨0, _⟩ => ⟨S1x128x8192, .fp8e4m3⟩
  | .local _ .vmem, ⟨1, _⟩ => ⟨S1x128x8192, .fp8e4m3⟩
  | .local _ .vmem, ⟨2, _⟩ => ⟨S1x128x256, .f32⟩
  | .local _ .vmem, ⟨3, _⟩ => ⟨S1x128x256, .f32⟩
  | .local _ .vmem, ⟨4, _⟩ => ⟨S1x128x128, .f32⟩
  | .local _ .vmem, ⟨5, _⟩ => ⟨S1x128x128, .f32⟩
  | .local _ .vmem, ⟨6, _⟩ => ⟨S1x128x256, .f32⟩
  | .local _ .vmem, ⟨7, _⟩ => ⟨S1x128x256, .f32⟩
  | .local _ .vmem, ⟨8, _⟩ => ⟨S128x128, .f32⟩
  | .local _ .vmem, ⟨9, _⟩ => ⟨S128x128, .f32⟩
  | .local _ .vmem, ⟨10, _⟩ => ⟨S1x256x256, .bf16⟩
  | .local _ .vmem, ⟨11, _⟩ => ⟨S1x256x256, .bf16⟩
  | .local _ .vmem, ⟨12, _⟩ => ⟨S1x1x256, .f32⟩
  | .local _ .vmem, ⟨13, _⟩ => ⟨S1x1x256, .f32⟩
  | .local _ .vmem, ⟨14, _⟩ => ⟨S1x8192x256, .fp8e4m3⟩
  | .local _ .vmem, ⟨15, _⟩ => ⟨S1x8192x256, .fp8e4m3⟩
  | .local _ .vmem, ⟨16, _⟩ => ⟨S1x16x8192, .bf16⟩
  | .local _ .vmem, ⟨17, _⟩ => ⟨S1x16x8192, .bf16⟩
  | .local _ .vmem, ⟨18, _⟩ => ⟨S1x128x8192, .fp8e5m2⟩
  | .local _ .vmem, ⟨19, _⟩ => ⟨S1x128x8192, .fp8e5m2⟩
  | .local _ .vmem, ⟨20, _⟩ => ⟨S1x128x128, .f32⟩
  | .local _ .vmem, ⟨21, _⟩ => ⟨S1x128x128, .f32⟩
  | .local _ .smem, ⟨0, _⟩ => ⟨S2, .i32⟩
  | .local _ .smem, ⟨1, _⟩ => ⟨S2, .f32⟩
  | _, _ => ⟨S2x1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_call0_c : Ref sig .tc := ⟨.hbm, 10, rfl⟩
abbrev main_call0_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_c_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_call2_v0 : Ref sig .tc := ⟨.hbm, 45, rfl⟩
abbrev main_call2_v1 : Ref sig .tc := ⟨.hbm, 46, rfl⟩
abbrev main_v23 : Ref sig .tc := ⟨.hbm, 47, rfl⟩
abbrev main_c_6 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call4_v0 : Ref sig .tc := ⟨.hbm, 58, rfl⟩
abbrev main_call4_c : Ref sig .tc := ⟨.hbm, 59, rfl⟩
abbrev main_call4_c_0 : Ref sig .tc := ⟨.hbm, 60, rfl⟩
abbrev main_call4_v1_0 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_7 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_8 : Ref sig .tc := ⟨.hbm, 84, rfl⟩
abbrev main_cst_9 : Ref sig .tc := ⟨.hbm, 85, rfl⟩
abbrev main_call5_v0 : Ref sig .tc := ⟨.hbm, 86, rfl⟩
abbrev main_call5_v1 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_10 : Ref sig .tc := ⟨.hbm, 91, rfl⟩
abbrev main_v53 : Ref sig .tc := ⟨.hbm, 92, rfl⟩
abbrev main_cst_11 : Ref sig .tc := ⟨.hbm, 93, rfl⟩
abbrev main_v54 : Ref sig .tc := ⟨.hbm, 94, rfl⟩
abbrev main_v55 : Ref sig .tc := ⟨.hbm, 95, rfl⟩
abbrev main_cst_12 : Ref sig .tc := ⟨.hbm, 96, rfl⟩
abbrev main_cst_13 : Ref sig .tc := ⟨.hbm, 97, rfl⟩
abbrev main_call6_v0 : Ref sig .tc := ⟨.hbm, 98, rfl⟩
abbrev main_call6_v1 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_14 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_15 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_16 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_17 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_v85 : Ref sig .tc := ⟨.hbm, 136, rfl⟩
abbrev main_v86 : Ref sig .tc := ⟨.hbm, 137, rfl⟩
abbrev main_c_18 : Ref sig .tc := ⟨.hbm, 138, rfl⟩
abbrev main_v87 : Ref sig .tc := ⟨.hbm, 139, rfl⟩
abbrev main_v88 : Ref sig .tc := ⟨.hbm, 140, rfl⟩
abbrev main_c_19 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_c_20 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_call10_v0 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106_0 : Ref sig .tc := ⟨.hbm, 161, rfl⟩
abbrev main_v106_1 : Ref sig .tc := ⟨.hbm, 162, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![2, 8], ![false, false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v24 : Index := Scalar.indexCast arg0
  ![v24.toNat]
def k0_off3 (i : grid0.Coords) : Fin 1 → Nat :=
  let arg0 : BitVec 32 := BitVec.ofNat 32 (i 0).val
  let v9 : Index := Scalar.indexCast arg0
  ![v9.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8192x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x16x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x8192 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "above" => some ⊤
  | "log2e" => some (((Real.log 2)⁻¹ : ℝ) : EReal)
  | _ => none
-- ==== ReferenceIdeal.lean ====
abbrev S2x1024x8192 : Shape := ⟨3, ![2, 1024, 8192]⟩
abbrev S2x1024 : Shape := ⟨2, ![2, 1024]⟩
abbrev S400 : Shape := ⟨1, ![400]⟩
abbrev S2 : Shape := ⟨1, ![2]⟩
abbrev S2x1024x256 : Shape := ⟨3, ![2, 1024, 256]⟩
abbrev S1024x128 : Shape := ⟨2, ![1024, 128]⟩
abbrev S256 : Shape := ⟨1, ![256]⟩
abbrev S_ : Shape := ⟨0, ![]⟩
abbrev S2x1 : Shape := ⟨2, ![2, 1]⟩
abbrev S1x256 : Shape := ⟨2, ![1, 256]⟩
abbrev S2x256 : Shape := ⟨2, ![2, 256]⟩
abbrev S2x256x1 : Shape := ⟨3, ![2, 256, 1]⟩
abbrev S1024x1 : Shape := ⟨2, ![1024, 1]⟩
abbrev S1024 : Shape := ⟨1, ![1024]⟩
abbrev S1x1024 : Shape := ⟨2, ![1, 1024]⟩
abbrev S2x1024x1 : Shape := ⟨3, ![2, 1024, 1]⟩
abbrev S2x1024x128 : Shape := ⟨3, ![2, 1024, 128]⟩
abbrev S1x1024x8192 : Shape := ⟨3, ![1, 1024, 8192]⟩
abbrev S1024x8192 : Shape := ⟨2, ![1024, 8192]⟩
abbrev S1x1024x1 : Shape := ⟨3, ![1, 1024, 1]⟩
abbrev S256x8192 : Shape := ⟨2, ![256, 8192]⟩
abbrev S1x256x1 : Shape := ⟨3, ![1, 256, 1]⟩
abbrev S256x1 : Shape := ⟨2, ![256, 1]⟩
abbrev S1x1024x256 : Shape := ⟨3, ![1, 1024, 256]⟩
abbrev S1024x256 : Shape := ⟨2, ![1024, 256]⟩
abbrev S1 : Shape := ⟨1, ![1]⟩
abbrev S1x1024x128 : Shape := ⟨3, ![1, 1024, 128]⟩

abbrev nBuf : Space → Nat
  | .hbm => 71
  | .vmem => 6
  | .smem => 2
  | _ => 0

abbrev bufTy : (tb : Table) → Fin (tcTables nBuf tb) → BufTy
  | .hbm, ⟨0, _⟩ => ⟨S2x1024x8192, .f32⟩
  | .hbm, ⟨1, _⟩ => ⟨S2x1024, .f32⟩
  | .hbm, ⟨2, _⟩ => ⟨S400, .i32⟩
  | .hbm, ⟨3, _⟩ => ⟨S2, .i32⟩
  | .hbm, ⟨4, _⟩ => ⟨S2, .i32⟩
  | .hbm, ⟨5, _⟩ => ⟨S2, .f32⟩
  | .hbm, ⟨6, _⟩ => ⟨S2x1024x256, .f32⟩
  | .hbm, ⟨7, _⟩ => ⟨S1024x128, .f32⟩
  | .hbm, ⟨8, _⟩ => ⟨S256, .i32⟩
  | .hbm, ⟨9, _⟩ => ⟨S2x1024x8192, .fp8e4m3⟩
  | .hbm, ⟨10, _⟩ => ⟨S_, .i32⟩
  | .hbm, ⟨11, _⟩ => ⟨S_, .i32⟩
  | .hbm, ⟨12, _⟩ => ⟨S2, .i32⟩
  | .hbm, ⟨13, _⟩ => ⟨S2, .i32⟩
  | .hbm, ⟨14, _⟩ => ⟨S2x1, .i32⟩
  | .hbm, ⟨15, _⟩ => ⟨S1x256, .i32⟩
  | .hbm, ⟨16, _⟩ => ⟨S2x256, .i32⟩
  | .hbm, ⟨17, _⟩ => ⟨S2x256, .i32⟩
  | .hbm, ⟨18, _⟩ => ⟨S2x256, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x256, .i32⟩
  | .hbm, ⟨23, _⟩ => ⟨S2x256, .i32⟩
  | .hbm, ⟨24, _⟩ => ⟨S_, .i32⟩
  | .hbm, ⟨25, _⟩ => ⟨S2x256, .i32⟩
  | .hbm, ⟨26, _⟩ => ⟨S2x256, .i32⟩
  | .hbm, ⟨27, _⟩ => ⟨S_, .i32⟩
  | .hbm, ⟨28, _⟩ => ⟨S2x256, .i32⟩
  | .hbm, ⟨29, _⟩ => ⟨S2x256, .i1⟩
  | .hbm, ⟨30, _⟩ => ⟨S_, .i32⟩
  | .hbm, ⟨31, _⟩ => ⟨S2x256, .i32⟩
  | .hbm, ⟨32, _⟩ => ⟨S2x256, .i32⟩
  | .hbm, ⟨33, _⟩ => ⟨S2x256, .i32⟩
  | .hbm, ⟨34, _⟩ => ⟨S2x256x1, .i32⟩
  | .hbm, ⟨35, _⟩ => ⟨S2x256, .i32⟩
  | .hbm, ⟨36, _⟩ => ⟨S_, .i32⟩
  | .hbm, ⟨37, _⟩ => ⟨S256, .i32⟩
  | .hbm, ⟨38, _⟩ => ⟨S256, .i1⟩
  | .hbm, ⟨39, _⟩ => ⟨S1x256, .i32⟩
  | .hbm, ⟨40, _⟩ => ⟨S2x1, .i32⟩
  | .hbm, ⟨41, _⟩ => ⟨S2x256, .i32⟩
  | .hbm, ⟨42, _⟩ => ⟨S2x256, .i32⟩
  | .hbm, ⟨43, _⟩ => ⟨S2x256, .i1⟩
  | .hbm, ⟨44, _⟩ => ⟨S_, .i32⟩
  | .hbm, ⟨45, _⟩ => ⟨S_, .i32⟩
  | .hbm, ⟨46, _⟩ => ⟨S2x256, .i32⟩
  | .hbm, ⟨47, _⟩ => ⟨S2x256, .i32⟩
  | .hbm, ⟨48, _⟩ => ⟨S_, .i32⟩
  | .hbm, ⟨49, _⟩ => ⟨S_, .i32⟩
  | .hbm, ⟨50, _⟩ => ⟨S2x256, .i1⟩
  | .hbm, ⟨51, _⟩ => ⟨S2x256, .i32⟩
  | .hbm, ⟨52, _⟩ => ⟨S2x256, .i32⟩
  | .hbm, ⟨53, _⟩ => ⟨S1024x1, .f32⟩
  | .hbm, ⟨54, _⟩ => ⟨S1024, .f32⟩
  | .hbm, ⟨55, _⟩ => ⟨S1024x1, .f32⟩
  | .hbm, ⟨56, _⟩ => ⟨S1024, .f32⟩
  | .hbm, ⟨57, _⟩ => ⟨S1x1024, .f32⟩
  | .hbm, ⟨58, _⟩ => ⟨S1x1024, .f32⟩
  | .hbm, ⟨59, _⟩ => ⟨S2x1024, .f32⟩
  | .hbm, ⟨60, _⟩ => ⟨S_, .i32⟩
  | .hbm, ⟨61, _⟩ => ⟨S256, .i32⟩
  | .hbm, ⟨62, _⟩ => ⟨S256, .i1⟩
  | .hbm, ⟨63, _⟩ => ⟨S2x1024x1, .f32⟩
  | .hbm, ⟨64, _⟩ => ⟨S2x1024x256, .i1⟩
  | .hbm, ⟨65, _⟩ => ⟨S2x1024x256, .f32⟩
  | .hbm, ⟨66, _⟩ => ⟨S2x1024x256, .f32⟩
  | .hbm, ⟨67, _⟩ => ⟨S2x1024x1, .f32⟩
  | .hbm, ⟨68, _⟩ => ⟨S2x256x1, .i32⟩
  | .hbm, ⟨69, _⟩ => ⟨S2x1024x8192, .fp8e5m2⟩
  | .hbm, ⟨70, _⟩ => ⟨S2x1024x128, .f32⟩
  | .local _ .vmem, ⟨0, _⟩ => ⟨S2x1024x8192, .fp8e4m3⟩
  | .local _ .vmem, ⟨1, _⟩ => ⟨S2x1024x1, .f32⟩
  | .local _ .vmem, ⟨2, _⟩ => ⟨S2x256x1, .i32⟩
  | .local _ .vmem, ⟨3, _⟩ => ⟨S2x1024x256, .f32⟩
  | .local _ .vmem, ⟨4, _⟩ => ⟨S2x1024x8192, .fp8e5m2⟩
  | .local _ .vmem, ⟨5, _⟩ => ⟨S2x1024x128, .f32⟩
  | .local _ .smem, ⟨0, _⟩ => ⟨S2, .i32⟩
  | .local _ .smem, ⟨1, _⟩ => ⟨S2, .f32⟩
  | _, _ => ⟨S2x1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_call0_c : Ref sig .tc := ⟨.hbm, 10, rfl⟩
abbrev main_call0_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_c_1 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_c_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_call2_v0 : Ref sig .tc := ⟨.hbm, 45, rfl⟩
abbrev main_call2_v1 : Ref sig .tc := ⟨.hbm, 46, rfl⟩
abbrev main_v23 : Ref sig .tc := ⟨.hbm, 47, rfl⟩
abbrev main_c_6 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_call4_v0 : Ref sig .tc := ⟨.hbm, 64, rfl⟩
abbrev main_call4_v1 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38_0 : Ref sig .tc := ⟨.hbm, 69, rfl⟩
abbrev main_v38_1 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S2x1024x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S2 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x8192 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Grad.lean ====
/-
  The gradient body run once per branch.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.Tactic
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The clip length the body reads. -/
abbrev lenRead (i : grid0.Coords) (arg2 : Memref sig .tc .smem S2 .i32) (harg2 : arg2.IsWhole) (x2 : Vec F S2 .i32) : Elt F .i32 :=
  View.readAt (Elt F) arg2.view (Rect.unit (s := S2) (k0_off1 i) S1.size (k0_off1_inb i)).toLoadRect (harg2.unread x2) (Shape.Idx.first (numel1_S1.symm ▸ Nat.one_pos))

set_option maxHeartbeats 2000000 in
noncomputable def gradLive (c : Dev nD) (i : grid0.Coords) (arg2 : Memref sig .tc .smem S2 .i32) (harg2 : arg2.IsWhole) (arg3 : Memref sig .tc .smem S2 .f32) (harg3 : arg3.IsWhole) (arg4 : Memref sig .tc .vmem S1x128x8192 .fp8e4m3) (harg4 : arg4.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (arg11 : Memref sig .tc .vmem S1x8192x256 .fp8e4m3) (harg11 : arg11.IsWhole) (arg12 : Memref sig .tc .vmem S1x16x8192 .bf16) (harg12 : arg12.IsWhole) (arg13 : Memref sig .tc .vmem S1x128x8192 .fp8e5m2) (harg13 : arg13.IsWhole) (arg14 : Memref sig .tc .vmem S1x128x128 .f32) (harg14 : arg14.IsWhole)
    (x2 : Vec F S2 .i32) (x3 : Vec F S2 .f32) (x4 : Vec F S1x128x8192 .fp8e4m3) (x5 : Vec F S1x128x256 .f32) (x6 : Vec F S1x128x128 .f32) (x7 : Vec F S1x128x256 .f32) (x8 : Vec F S128x128 .f32) (x9 : Vec F S1x256x256 .bf16) (x10 : Vec F S1x1x256 .f32) (x11 : Vec F S1x8192x256 .fp8e4m3) (x12 : Vec F S1x16x8192 .bf16) (hl : Scalar.cmpi .ne (Scalar.extui (Scalar.cmpi .slt (Scalar.muli (BitVec.ofNat 32 (i 1).val) 128#32) (lenRead i arg2 harg2 x2)) : BitVec 32) 0#32 = 1#1) (hd : ¬ Scalar.cmpi .ne (Scalar.extui (Scalar.cmpi .sge (Scalar.muli (BitVec.ofNat 32 (i 1).val) 128#32) (lenRead i arg2 harg2 x2)) : BitVec 32) 0#32 = 1#1) :
    Σ' (L13 : List (View.Piece (Elt F) S1x128x8192 .fp8e5m2)), { L14 : List (View.Piece (Elt F) S1x128x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_ctc_grad i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_ctc_grad_eq_skeleton]; unfold cc0_ctc_grad_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12

    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    iexists _; iexact H14

set_option maxHeartbeats 2000000 in
noncomputable def gradDead (c : Dev nD) (i : grid0.Coords) (arg2 : Memref sig .tc .smem S2 .i32) (harg2 : arg2.IsWhole) (arg3 : Memref sig .tc .smem S2 .f32) (harg3 : arg3.IsWhole) (arg4 : Memref sig .tc .vmem S1x128x8192 .fp8e4m3) (harg4 : arg4.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (arg11 : Memref sig .tc .vmem S1x8192x256 .fp8e4m3) (harg11 : arg11.IsWhole) (arg12 : Memref sig .tc .vmem S1x16x8192 .bf16) (harg12 : arg12.IsWhole) (arg13 : Memref sig .tc .vmem S1x128x8192 .fp8e5m2) (harg13 : arg13.IsWhole) (arg14 : Memref sig .tc .vmem S1x128x128 .f32) (harg14 : arg14.IsWhole)
    (x2 : Vec F S2 .i32) (x3 : Vec F S2 .f32) (x4 : Vec F S1x128x8192 .fp8e4m3) (x5 : Vec F S1x128x256 .f32) (x6 : Vec F S1x128x128 .f32) (x7 : Vec F S1x128x256 .f32) (x8 : Vec F S128x128 .f32) (x9 : Vec F S1x256x256 .bf16) (x10 : Vec F S1x1x256 .f32) (x11 : Vec F S1x8192x256 .fp8e4m3) (x12 : Vec F S1x16x8192 .bf16) (hl : ¬ Scalar.cmpi .ne (Scalar.extui (Scalar.cmpi .slt (Scalar.muli (BitVec.ofNat 32 (i 1).val) 128#32) (lenRead i arg2 harg2 x2)) : BitVec 32) 0#32 = 1#1) (hd : Scalar.cmpi .ne (Scalar.extui (Scalar.cmpi .sge (Scalar.muli (BitVec.ofNat 32 (i 1).val) 128#32) (lenRead i arg2 harg2 x2)) : BitVec 32) 0#32 = 1#1) :
    Σ' (L13 : List (View.Piece (Elt F) S1x128x8192 .fp8e5m2)), { L14 : List (View.Piece (Elt F) S1x128x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_ctc_grad i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_ctc_grad_eq_skeleton]; unfold cc0_ctc_grad_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12

    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    iexists _; iexact H14

end Cert.KernelIdeal.Gen

end
-- ==== Proof.GradFrame.lean ====
/-
  The frame of the gradient call: what every grid point leaves, and the run of the pipeline.
-/
module

public import proofs.«01_k».proof.Proof.Gen.KernelIdeal
public import proofs.«01_k».proof.Proof.Gen.KernelIdeal.Skeleton
public import proofs.«01_k».proof.Proof.Gen.KernelIdeal.Frame
public import proofs.«01_k».proof.Proof.Grad
public import Idealize.ShloMosaic.Lib.Tactic
public import Idealize.ShloMosaic.Lib.Claim
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) := win0_0.stage (cfg0.slots t 0)
abbrev hs0_0 (t : Fin cfg0.N) := hstage0_0 ((cfg0.slots t 0).cast nbuf0_0)
abbrev ms0_1 (t : Fin cfg0.N) := win0_1.stage (cfg0.slots t 1)
abbrev hs0_1 (t : Fin cfg0.N) := hstage0_1 ((cfg0.slots t 1).cast nbuf0_1)
abbrev ms0_2 (t : Fin cfg0.N) := win0_2.stage (cfg0.slots t 2)
abbrev hs0_2 (t : Fin cfg0.N) := hstage0_2 ((cfg0.slots t 2).cast nbuf0_2)
abbrev ms0_3 (t : Fin cfg0.N) := win0_3.stage (cfg0.slots t 3)
abbrev hs0_3 (t : Fin cfg0.N) := hstage0_3 ((cfg0.slots t 3).cast nbuf0_3)
abbrev ms0_4 (t : Fin cfg0.N) := win0_4.stage (cfg0.slots t 4)
abbrev hs0_4 (t : Fin cfg0.N) := hstage0_4 ((cfg0.slots t 4).cast nbuf0_4)
abbrev ms0_5 (t : Fin cfg0.N) := win0_5.stage (cfg0.slots t 5)
abbrev hs0_5 (t : Fin cfg0.N) := hstage0_5 ((cfg0.slots t 5).cast nbuf0_5)
abbrev ms0_6 (t : Fin cfg0.N) := win0_6.stage (cfg0.slots t 6)
abbrev hs0_6 (t : Fin cfg0.N) := hstage0_6 ((cfg0.slots t 6).cast nbuf0_6)
abbrev ms0_7 (t : Fin cfg0.N) := win0_7.stage (cfg0.slots t 7)
abbrev hs0_7 (t : Fin cfg0.N) := hstage0_7 ((cfg0.slots t 7).cast nbuf0_7)
abbrev ms0_8 (t : Fin cfg0.N) := win0_8.stage (cfg0.slots t 8)
abbrev hs0_8 (t : Fin cfg0.N) := hstage0_8 ((cfg0.slots t 8).cast nbuf0_8)
abbrev ms0_9 (t : Fin cfg0.N) := win0_9.stage (cfg0.slots t 9)
abbrev hs0_9 (t : Fin cfg0.N) := hstage0_9 ((cfg0.slots t 9).cast nbuf0_9)
abbrev ms0_10 (t : Fin cfg0.N) := win0_10.stage (cfg0.slots t 10)
abbrev hs0_10 (t : Fin cfg0.N) := hstage0_10 ((cfg0.slots t 10).cast nbuf0_10)
abbrev ms0_11 (t : Fin cfg0.N) := win0_11.stage (cfg0.slots t 11)
abbrev hs0_11 (t : Fin cfg0.N) := hstage0_11 ((cfg0.slots t 11).cast nbuf0_11)
abbrev ms0_12 (t : Fin cfg0.N) := win0_12.stage (cfg0.slots t 12)
abbrev hs0_12 (t : Fin cfg0.N) := hstage0_12 ((cfg0.slots t 12).cast nbuf0_12)

/-- The test the body makes before the live branch, at one point: the block starts before the clip's end. -/
abbrev liveWord (i : grid0.Coords) (n : BitVec 32) : BitVec 1 :=
  Scalar.cmpi .ne (Scalar.extui (Scalar.cmpi .slt (Scalar.muli (BitVec.ofNat 32 (i 1).val) 128#32) n) : BitVec 32) 0#32

/-- The test before the dead branch. -/
abbrev deadWord (i : grid0.Coords) (n : BitVec 32) : BitVec 1 :=
  Scalar.cmpi .ne (Scalar.extui (Scalar.cmpi .sge (Scalar.muli (BitVec.ofNat 32 (i 1).val) 128#32) n) : BitVec 32) 0#32

/-- A signed comparison widened to a word and tested against zero is the comparison. -/
theorem word_slt (a b : BitVec 32) :
    Scalar.cmpi .ne (Scalar.extui (Scalar.cmpi .slt a b) : BitVec 32) 0#32 = 1#1 ↔ a.slt b = true := by
  cases h : a.slt b <;> simp [Scalar.cmpi, Scalar.extui, IntOp.cmpi, h]

theorem word_sge (a b : BitVec 32) :
    Scalar.cmpi .ne (Scalar.extui (Scalar.cmpi .sge a b) : BitVec 32) 0#32 = 1#1 ↔ b.sle a = true := by
  cases h : b.sle a <;> simp [Scalar.cmpi, Scalar.extui, IntOp.cmpi, h]

/-- Exactly one of the two branches runs. -/
theorem deadWord_iff (i : grid0.Coords) (n : BitVec 32) : deadWord i n = 1#1 ↔ ¬ liveWord i n = 1#1 := by
  rw [word_slt, word_sge]
  simp only [BitVec.slt, BitVec.sle, decide_eq_true_eq]
  omega

/-- The clip length read at a point. -/
abbrev lenAt (c : Dev nD) (t : Fin cfg0.N) : BitVec 32 := lenRead (grid0.coords t) (ms0_0 t) (hs0_0 t) (iblk m c 0 t)

/-- The live branch's stores cover the codes' block: 32 column tiles, -/
theorem cover_codes (c : Dev nD) (t : Fin cfg0.N) (hl) (hd) (y : S1x128x8192.Idx) :
    ∃ pc ∈ (gradLive (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hl hd).1, y ∈ pc.1.set :=
  View.cover_of_tiledL (s := S1x128x8192) _ S1x128x256.size (by sl_kernel_rfl) y

/-- and the scales' block: one store. -/
theorem cover_scales (c : Dev nD) (t : Fin cfg0.N) (hl) (hd) (y : S1x128x128.Idx) :
    ∃ pc ∈ (gradLive (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hl hd).2.1, y ∈ pc.1.set :=
  View.cover_of_tiledL _ S1x128x128.size (by sl_kernel_rfl) y

/-- The dead branch's stores cover both blocks. -/
theorem cover_codes_dead (c : Dev nD) (t : Fin cfg0.N) (hl) (hd) (y : S1x128x8192.Idx) :
    ∃ pc ∈ (gradDead (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hl hd).1, y ∈ pc.1.set :=
  View.cover_of_tiledL _ S1x128x8192.size (by sl_kernel_rfl) y

theorem cover_scales_dead (c : Dev nD) (t : Fin cfg0.N) (hl) (hd) (y : S1x128x128.Idx) :
    ∃ pc ∈ (gradDead (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hl hd).2.1, y ∈ pc.1.set :=
  View.cover_of_tiledL _ S1x128x128.size (by sl_kernel_rfl) y

/-- What the two outputs' staging buffers hold after the body at point `t`. -/
def outsAt0 (c : Dev nD) (t : Fin cfg0.N) : Vec F S1x128x8192 .fp8e5m2 × Vec F S1x128x128 .f32 :=
  if h : liveWord (grid0.coords t) (lenAt m c t) = 1#1 then
    (View.canon (gradLive c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h (fun hd => (deadWord_iff _ _).mp hd h)).1,
      View.canon (gradLive c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h (fun hd => (deadWord_iff _ _).mp hd h)).2.1)
  else
    (View.canon (gradDead c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h ((deadWord_iff _ _).mpr h)).1,
      View.canon (gradDead c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h ((deadWord_iff _ _).mpr h)).2.1)

/-- The proof data of the pipeline on core `c`: arrays as the region finds them; after the body each input's buffer at its
    block and the outputs' at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1600000 in
/-- The body at any point, by the branch it takes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  unfold outsAt0
  by_cases h : liveWord (grid0.coords t) (lenAt m c t) = 1#1
  · rw [dif_pos h]; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((gradLive c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h (fun hd => (deadWord_iff _ _).mp hd h)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iintro ⟨H0, H1, H2, H3, H4, H5, H6, H7, H8, H9, H10, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_eq_canon _ _ _ (cover_codes m c t _ _)
    unfold owns; iexists _; isplitr
    swap; · iexact H12
    ipureintro; exact View.read_writes_eq_canon _ _ _ (cover_scales m c t _ _)
  · rw [dif_neg h]; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((gradDead c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h ((deadWord_iff _ _).mpr h)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iintro ⟨H0, H1, H2, H3, H4, H5, H6, H7, H8, H9, H10, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_eq_canon _ _ _ (cover_codes_dead m c t _ _)
    unfold owns; iexists _; isplitr
    swap; · iexact H12
    ipureintro; exact View.read_writes_eq_canon _ _ _ (cover_scales_dead m c t _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: every run ends, the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.GradBits.lean ====
/-
  The gradient body run once per branch.
-/
module

public import proofs.«01_k».proof.Proof.Gen.Kernel
public import proofs.«01_k».proof.Proof.Gen.Kernel.Skeleton
public import proofs.«01_k».proof.Proof.Gen.Kernel.Frame
public import Idealize.ShloMosaic.Lib.Tactic
public import Idealize.ShloMosaic.Lib.Pipeline.FrameBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The clip length the body reads. -/
abbrev lenRead (i : grid0.Coords) (arg2 : Memref sig .tc .smem S2 .i32) (harg2 : arg2.IsWhole) (x2 : Vec F S2 .i32) : Elt F .i32 :=
  View.readAt (Elt F) arg2.view (Rect.unit (s := S2) (k0_off1 i) S1.size (k0_off1_inb i)).toLoadRect (harg2.unread x2) (Shape.Idx.first (numel1_S1.symm ▸ Nat.one_pos))

set_option maxHeartbeats 2000000 in
noncomputable def gradLive (c : Dev nD) (i : grid0.Coords) (arg2 : Memref sig .tc .smem S2 .i32) (harg2 : arg2.IsWhole) (arg3 : Memref sig .tc .smem S2 .f32) (harg3 : arg3.IsWhole) (arg4 : Memref sig .tc .vmem S1x128x8192 .fp8e4m3) (harg4 : arg4.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (arg11 : Memref sig .tc .vmem S1x8192x256 .fp8e4m3) (harg11 : arg11.IsWhole) (arg12 : Memref sig .tc .vmem S1x16x8192 .bf16) (harg12 : arg12.IsWhole) (arg13 : Memref sig .tc .vmem S1x128x8192 .fp8e5m2) (harg13 : arg13.IsWhole) (arg14 : Memref sig .tc .vmem S1x128x128 .f32) (harg14 : arg14.IsWhole)
    (x2 : Vec F S2 .i32) (x3 : Vec F S2 .f32) (x4 : Vec F S1x128x8192 .fp8e4m3) (x5 : Vec F S1x128x256 .f32) (x6 : Vec F S1x128x128 .f32) (x7 : Vec F S1x128x256 .f32) (x8 : Vec F S128x128 .f32) (x9 : Vec F S1x256x256 .bf16) (x10 : Vec F S1x1x256 .f32) (x11 : Vec F S1x8192x256 .fp8e4m3) (x12 : Vec F S1x16x8192 .bf16) (hl : Scalar.cmpi .ne (Scalar.extui (Scalar.cmpi .slt (Scalar.muli (BitVec.ofNat 32 (i 1).val) 128#32) (lenRead i arg2 harg2 x2)) : BitVec 32) 0#32 = 1#1) (hd : ¬ Scalar.cmpi .ne (Scalar.extui (Scalar.cmpi .sge (Scalar.muli (BitVec.ofNat 32 (i 1).val) 128#32) (lenRead i arg2 harg2 x2)) : BitVec 32) 0#32 = 1#1) :
    Σ' (L13 : List (View.Piece (Elt F) S1x128x8192 .fp8e5m2)), { L14 : List (View.Piece (Elt F) S1x128x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_ctc_grad i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_ctc_grad_eq_skeleton]; unfold cc0_ctc_grad_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12

    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    iexists _; iexact H14

set_option maxHeartbeats 2000000 in
noncomputable def gradDead (c : Dev nD) (i : grid0.Coords) (arg2 : Memref sig .tc .smem S2 .i32) (harg2 : arg2.IsWhole) (arg3 : Memref sig .tc .smem S2 .f32) (harg3 : arg3.IsWhole) (arg4 : Memref sig .tc .vmem S1x128x8192 .fp8e4m3) (harg4 : arg4.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (arg11 : Memref sig .tc .vmem S1x8192x256 .fp8e4m3) (harg11 : arg11.IsWhole) (arg12 : Memref sig .tc .vmem S1x16x8192 .bf16) (harg12 : arg12.IsWhole) (arg13 : Memref sig .tc .vmem S1x128x8192 .fp8e5m2) (harg13 : arg13.IsWhole) (arg14 : Memref sig .tc .vmem S1x128x128 .f32) (harg14 : arg14.IsWhole)
    (x2 : Vec F S2 .i32) (x3 : Vec F S2 .f32) (x4 : Vec F S1x128x8192 .fp8e4m3) (x5 : Vec F S1x128x256 .f32) (x6 : Vec F S1x128x128 .f32) (x7 : Vec F S1x128x256 .f32) (x8 : Vec F S128x128 .f32) (x9 : Vec F S1x256x256 .bf16) (x10 : Vec F S1x1x256 .f32) (x11 : Vec F S1x8192x256 .fp8e4m3) (x12 : Vec F S1x16x8192 .bf16) (hl : ¬ Scalar.cmpi .ne (Scalar.extui (Scalar.cmpi .slt (Scalar.muli (BitVec.ofNat 32 (i 1).val) 128#32) (lenRead i arg2 harg2 x2)) : BitVec 32) 0#32 = 1#1) (hd : Scalar.cmpi .ne (Scalar.extui (Scalar.cmpi .sge (Scalar.muli (BitVec.ofNat 32 (i 1).val) 128#32) (lenRead i arg2 harg2 x2)) : BitVec 32) 0#32 = 1#1) :
    Σ' (L13 : List (View.Piece (Elt F) S1x128x8192 .fp8e5m2)), { L14 : List (View.Piece (Elt F) S1x128x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_ctc_grad i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_ctc_grad_eq_skeleton]; unfold cc0_ctc_grad_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12

    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    iexists _; iexact H14

end Cert.Kernel.Gen

end
-- ==== Proof.GradBitsFrame.lean ====
/-
  The frame of the gradient call: what every grid point leaves, and the run of the pipeline.
-/
module

public import proofs.«01_k».proof.Proof.Gen.Kernel
public import proofs.«01_k».proof.Proof.Gen.Kernel.Skeleton
public import proofs.«01_k».proof.Proof.Gen.Kernel.Frame
public import proofs.«01_k».proof.Proof.GradBits
public import Idealize.ShloMosaic.Lib.Tactic
public import Idealize.ShloMosaic.Lib.Claim
public import Idealize.ShloMosaic.Lib.Pipeline.FrameBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) := win0_0.stage (cfg0.slots t 0)
abbrev hs0_0 (t : Fin cfg0.N) := hstage0_0 ((cfg0.slots t 0).cast nbuf0_0)
abbrev ms0_1 (t : Fin cfg0.N) := win0_1.stage (cfg0.slots t 1)
abbrev hs0_1 (t : Fin cfg0.N) := hstage0_1 ((cfg0.slots t 1).cast nbuf0_1)
abbrev ms0_2 (t : Fin cfg0.N) := win0_2.stage (cfg0.slots t 2)
abbrev hs0_2 (t : Fin cfg0.N) := hstage0_2 ((cfg0.slots t 2).cast nbuf0_2)
abbrev ms0_3 (t : Fin cfg0.N) := win0_3.stage (cfg0.slots t 3)
abbrev hs0_3 (t : Fin cfg0.N) := hstage0_3 ((cfg0.slots t 3).cast nbuf0_3)
abbrev ms0_4 (t : Fin cfg0.N) := win0_4.stage (cfg0.slots t 4)
abbrev hs0_4 (t : Fin cfg0.N) := hstage0_4 ((cfg0.slots t 4).cast nbuf0_4)
abbrev ms0_5 (t : Fin cfg0.N) := win0_5.stage (cfg0.slots t 5)
abbrev hs0_5 (t : Fin cfg0.N) := hstage0_5 ((cfg0.slots t 5).cast nbuf0_5)
abbrev ms0_6 (t : Fin cfg0.N) := win0_6.stage (cfg0.slots t 6)
abbrev hs0_6 (t : Fin cfg0.N) := hstage0_6 ((cfg0.slots t 6).cast nbuf0_6)
abbrev ms0_7 (t : Fin cfg0.N) := win0_7.stage (cfg0.slots t 7)
abbrev hs0_7 (t : Fin cfg0.N) := hstage0_7 ((cfg0.slots t 7).cast nbuf0_7)
abbrev ms0_8 (t : Fin cfg0.N) := win0_8.stage (cfg0.slots t 8)
abbrev hs0_8 (t : Fin cfg0.N) := hstage0_8 ((cfg0.slots t 8).cast nbuf0_8)
abbrev ms0_9 (t : Fin cfg0.N) := win0_9.stage (cfg0.slots t 9)
abbrev hs0_9 (t : Fin cfg0.N) := hstage0_9 ((cfg0.slots t 9).cast nbuf0_9)
abbrev ms0_10 (t : Fin cfg0.N) := win0_10.stage (cfg0.slots t 10)
abbrev hs0_10 (t : Fin cfg0.N) := hstage0_10 ((cfg0.slots t 10).cast nbuf0_10)
abbrev ms0_11 (t : Fin cfg0.N) := win0_11.stage (cfg0.slots t 11)
abbrev hs0_11 (t : Fin cfg0.N) := hstage0_11 ((cfg0.slots t 11).cast nbuf0_11)
abbrev ms0_12 (t : Fin cfg0.N) := win0_12.stage (cfg0.slots t 12)
abbrev hs0_12 (t : Fin cfg0.N) := hstage0_12 ((cfg0.slots t 12).cast nbuf0_12)

/-- The test the body makes before the live branch, at one point: the block starts before the clip's end. -/
abbrev liveWord (i : grid0.Coords) (n : BitVec 32) : BitVec 1 :=
  Scalar.cmpi .ne (Scalar.extui (Scalar.cmpi .slt (Scalar.muli (BitVec.ofNat 32 (i 1).val) 128#32) n) : BitVec 32) 0#32

/-- The test before the dead branch. -/
abbrev deadWord (i : grid0.Coords) (n : BitVec 32) : BitVec 1 :=
  Scalar.cmpi .ne (Scalar.extui (Scalar.cmpi .sge (Scalar.muli (BitVec.ofNat 32 (i 1).val) 128#32) n) : BitVec 32) 0#32

/-- A signed comparison widened to a word and tested against zero is the comparison. -/
theorem word_slt (a b : BitVec 32) :
    Scalar.cmpi .ne (Scalar.extui (Scalar.cmpi .slt a b) : BitVec 32) 0#32 = 1#1 ↔ a.slt b = true := by
  cases h : a.slt b <;> simp [Scalar.cmpi, Scalar.extui, IntOp.cmpi, h]

theorem word_sge (a b : BitVec 32) :
    Scalar.cmpi .ne (Scalar.extui (Scalar.cmpi .sge a b) : BitVec 32) 0#32 = 1#1 ↔ b.sle a = true := by
  cases h : b.sle a <;> simp [Scalar.cmpi, Scalar.extui, IntOp.cmpi, h]

/-- Exactly one of the two branches runs. -/
theorem deadWord_iff (i : grid0.Coords) (n : BitVec 32) : deadWord i n = 1#1 ↔ ¬ liveWord i n = 1#1 := by
  rw [word_slt, word_sge]
  simp only [BitVec.slt, BitVec.sle, decide_eq_true_eq]
  omega

/-- The clip length read at a point. -/
abbrev lenAt (c : Dev nD) (t : Fin cfg0.N) : BitVec 32 := lenRead (grid0.coords t) (ms0_0 t) (hs0_0 t) (iblk m c 0 t)

/-- The live branch's stores cover the codes' block: 32 column tiles, -/
theorem cover_codes (c : Dev nD) (t : Fin cfg0.N) (hl) (hd) (y : S1x128x8192.Idx) :
    ∃ pc ∈ (gradLive (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hl hd).1, y ∈ pc.1.set :=
  View.cover_of_tiledL (s := S1x128x8192) _ S1x128x256.size (by sl_kernel_rfl) y

/-- and the scales' block: one store. -/
theorem cover_scales (c : Dev nD) (t : Fin cfg0.N) (hl) (hd) (y : S1x128x128.Idx) :
    ∃ pc ∈ (gradLive (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hl hd).2.1, y ∈ pc.1.set :=
  View.cover_of_tiledL _ S1x128x128.size (by sl_kernel_rfl) y

/-- The dead branch's stores cover both blocks. -/
theorem cover_codes_dead (c : Dev nD) (t : Fin cfg0.N) (hl) (hd) (y : S1x128x8192.Idx) :
    ∃ pc ∈ (gradDead (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hl hd).1, y ∈ pc.1.set :=
  View.cover_of_tiledL _ S1x128x8192.size (by sl_kernel_rfl) y

theorem cover_scales_dead (c : Dev nD) (t : Fin cfg0.N) (hl) (hd) (y : S1x128x128.Idx) :
    ∃ pc ∈ (gradDead (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) hl hd).2.1, y ∈ pc.1.set :=
  View.cover_of_tiledL _ S1x128x128.size (by sl_kernel_rfl) y

/-- What the two outputs' staging buffers hold after the body at point `t`. -/
def outsAt0 (c : Dev nD) (t : Fin cfg0.N) : Vec F S1x128x8192 .fp8e5m2 × Vec F S1x128x128 .f32 :=
  if h : liveWord (grid0.coords t) (lenAt m c t) = 1#1 then
    (View.canon (gradLive c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h (fun hd => (deadWord_iff _ _).mp hd h)).1,
      View.canon (gradLive c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h (fun hd => (deadWord_iff _ _).mp hd h)).2.1)
  else
    (View.canon (gradDead c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h ((deadWord_iff _ _).mpr h)).1,
      View.canon (gradDead c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h ((deadWord_iff _ _).mpr h)).2.1)

/-- The proof data of the pipeline on core `c`: arrays as the region finds them; after the body each input's buffer at its
    block and the outputs' at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1600000 in
/-- The body at any point, by the branch it takes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  unfold outsAt0
  by_cases h : liveWord (grid0.coords t) (lenAt m c t) = 1#1
  · rw [dif_pos h]; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((gradLive c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h (fun hd => (deadWord_iff _ _).mp hd h)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iintro ⟨H0, H1, H2, H3, H4, H5, H6, H7, H8, H9, H10, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_eq_canon _ _ _ (cover_codes m c t _ _)
    unfold owns; iexists _; isplitr
    swap; · iexact H12
    ipureintro; exact View.read_writes_eq_canon _ _ _ (cover_scales m c t _ _)
  · rw [dif_neg h]; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((gradDead c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) h ((deadWord_iff _ _).mpr h)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iintro ⟨H0, H1, H2, H3, H4, H5, H6, H7, H8, H9, H10, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_eq_canon _ _ _ (cover_codes_dead m c t _ _)
    unfold owns; iexists _; isplitr
    swap; · iexact H12
    ipureintro; exact View.read_writes_eq_canon _ _ _ (cover_scales_dead m c t _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: every run ends, the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Gen

end
-- ==== Proof.PreOk.lean ====
/-
  The precondition, element by element: every float argument is real, the scales are at least zero and the labels
  are below the vocabulary's size.
-/
module

public import proofs.«01_k».proof.Pre_ok
public import Idealize.ShloMosaic.Lib.Affine
public import Idealize.ShloMosaic.Lib.Decide
public import Idealize.ShloMosaic.Lib.Exec
public import Idealize.ShloMosaic.Lib.ReduceAll
public import Idealize.ShloMosaic.Lib.Pointwise

@[expose] public section

set_option maxRecDepth 16384

namespace Cert.Pre_ok.Gen

open Idealize.ShloMosaic

/-- The side conditions of the precondition's operations. -/
instance facts : Cert.Pre_ok.Facts where
  bcast_S_S2x1024x8192 := by decide
  reducesTo_S2x1024x8192_S_d0_1_2 := by decide
  h_S_ := by decide
  bcast_S_S2x1024 := by decide
  reducesTo_S2x1024_S_d0_1 := by decide
  bcast_S_S400 := by decide
  reducesTo_S400_S_d0 := by decide
  bcast_S_S2 := by decide
  reducesTo_S2_S_d0 := by decide
  bcast_S_S2x1024x256 := by decide
  reducesTo_S2x1024x256_S_d0_1_2 := by decide
  bcast_S_S1024x128 := by decide
  reducesTo_S1024x128_S_d0_1 := by decide

/-- A number whose magnitude is below infinity is real. -/
theorem real_of (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  unfold Ideal.cmp at h
  induction x using EReal.rec with
  | bot => simp at h
  | top => simp at h
  | coe r => exact ⟨r, rfl⟩

/-- A number the comparison finds at least zero. -/
theorem nonneg_of (x : EReal) (h : Ideal.cmp .oge x (Ideal.ofBits .f32 0x00000000#32) = 1#1) : 0 ≤ x := by
  rw [Ideal.ofBits_zero] at h
  unfold Ideal.cmp at h
  by_contra hx
  simp [hx] at h

/-- A label the comparison finds below the vocabulary's size. -/
theorem lt_of (x : BitVec 32) (h : IntOp.cmpi .slt x 8192#32 = 1#1) : x.toInt < 8192 := by
  unfold IntOp.cmpi at h
  have h8 : (8192#32 : BitVec 32).toInt = 8192 := by decide
  by_contra hx
  simp [BitVec.slt_eq_decide, h8, hx] at h

instance : Subsingleton S_.Idx := ⟨fun a b => funext fun k => k.elim0⟩

theorem read (a0 : FVec Ideal S2x1024x8192 .f32) (a1 : FVec Ideal S2x1024 .f32) (a2 : IVec S400 32) (a3 a4 : IVec S2 32)
    (a5 : FVec Ideal S2 .f32) (a6 : FVec Ideal S2x1024x256 .f32) (a7 : FVec Ideal S1024x128 .f32)
    (h : Cert.Pre_ok.fn (F := Ideal) a0 a1 a2 a3 a4 a5 a6 a7 = fun _ => 1#1) :
    (∀ i, ∃ r : ℝ, a0 i = (r : EReal)) ∧ (∀ i, ∃ r : ℝ, a1 i = (r : EReal)) ∧ (∀ i, (0 : EReal) ≤ a1 i) ∧ (∀ i, (a2 i).toInt < 8192)
      ∧ (∀ i, ∃ r : ℝ, a5 i = (r : EReal)) ∧ (∀ i, ∃ r : ℝ, a6 i = (r : EReal)) ∧ (∀ i, ∃ r : ℝ, a7 i = (r : EReal)) := by
  have e := congrFun h ix0
  dsimp only [Cert.Pre_ok.fn, Cert.Pre_ok.fn_part1] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨fun i => real_of _ (Host.reduce_andi_all _ _ _ _ _ e1 i), fun i => real_of _ (Host.reduce_andi_all _ _ _ _ _ e2 i),
    fun i => nonneg_of _ (Host.reduce_andi_all _ _ _ _ _ e3 i), fun i => lt_of _ (Host.reduce_andi_all _ _ _ _ _ e4 i),
    fun i => real_of _ (Host.reduce_andi_all _ _ _ _ _ e5 i), fun i => real_of _ (Host.reduce_andi_all _ _ _ _ _ e6 i),
    fun i => real_of _ (Host.reduce_andi_all _ _ _ _ _ e7 i)⟩

end Cert.Pre_ok.Gen

end
-- ==== Proof.Row.lean ====
/-
  The mathematics of one time step, over the extended reals: the softmax gradient of one row, its
  power-of-two scale, and the two ways of computing them. Nothing here mentions a program.
-/
module

public import Idealize.ShloMosaic.PureOps.Ideal
public import Idealize.ShloMosaic.PureOps.Ideal.Laws

@[expose] public section

noncomputable section

namespace Cert.Row

open Idealize.ShloMosaic
open scoped BigOperators

/-! ### Constants -/

/-- The reciprocal of the largest e5m2 number, as the f32 constant both programs multiply by. -/
abbrev cInv : EReal := Ideal.ofBits .f32 0x37924925#32
/-- The largest e5m2 number, 57344. -/
abbrev cMax : EReal := Ideal.ofBits .f32 0x47600000#32
/-- Its negative. -/
abbrev cMin : EReal := Ideal.ofBits .f32 0xC7600000#32
/-- The smallest exponent a scale may have. -/
abbrev cLo : EReal := Ideal.ofBits .f32 0xC2FA0000#32
/-- The largest exponent a scale may have. -/
abbrev cHi : EReal := Ideal.ofBits .f32 0x42FC0000#32
/-- One. -/
abbrev cOne : EReal := Ideal.ofBits .f32 0x3F800000#32
/-- Minus one. -/
abbrev cNegOne : EReal := Ideal.ofBits .f32 0xBF800000#32
/-- The base-two logarithm of e. -/
abbrev cLog2e : EReal := (((Real.log 2)⁻¹ : ℝ) : EReal)

theorem cOne_eq : cOne = ((1 : ℝ) : EReal) := by simp [Ideal.ofBits, Ideal.ieee, -EReal.coe_mul]; norm_num
theorem cNegOne_eq : cNegOne = ((-1 : ℝ) : EReal) := by simp [Ideal.ofBits, Ideal.ieee, -EReal.coe_mul]; norm_num
theorem cMax_eq : cMax = ((57344 : ℝ) : EReal) := by simp [Ideal.ofBits, Ideal.ieee, -EReal.coe_mul]; norm_num
theorem cMin_eq : cMin = ((-57344 : ℝ) : EReal) := by simp [Ideal.ofBits, Ideal.ieee, -EReal.coe_mul]; norm_num
theorem cLo_eq : cLo = ((-125 : ℝ) : EReal) := by simp [Ideal.ofBits, Ideal.ieee, -EReal.coe_mul]; norm_num
theorem cHi_eq : cHi = ((126 : ℝ) : EReal) := by simp [Ideal.ofBits, Ideal.ieee, -EReal.coe_mul]; norm_num

theorem cInv_pos : ∃ q : ℝ, 0 < q ∧ cInv = (q : EReal) := by
  refine ⟨(2 ^ 23 + 0x124925 : ℕ) * (2 : ℝ) ^ ((111 : ℤ) - 127 - 23), by positivity, ?_⟩
  simp [Ideal.ofBits, Ideal.ieee, -EReal.coe_mul]

/-! ### Maxima -/

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- The fold of `max` from the bottom over reals is attained and bounds every element. -/
theorem fold_max_coe {ι : Type*} [Fintype ι] [Nonempty ι] (f : ι → ℝ) :
    ∃ i₀, (∀ i, f i ≤ f i₀) ∧ (Finset.univ : Finset ι).fold max (⊥ : EReal) (fun i => (f i : EReal)) = (f i₀ : EReal) := by
  obtain ⟨i₀, -, h⟩ := Finset.exists_max_image Finset.univ f Finset.univ_nonempty
  refine ⟨i₀, fun i => h i (Finset.mem_univ i), le_antisymm ?_ ?_⟩
  · exact (Finset.fold_max_le _).2 ⟨bot_le, fun i hi => EReal.coe_le_coe_iff.2 (h i hi)⟩
  · exact Finset.le_fold_max _ |>.2 (Or.inr ⟨i₀, Finset.mem_univ _, le_rfl⟩)

/-! ### The scale -/

/-- The clipping to the e5m2 range. -/
abbrev clip (g : EReal) : EReal := min cMax (max cMin g)

theorem clip_zero : clip 0 = 0 := by
  rw [clip, cMax_eq, cMin_eq, ← EReal.coe_zero, ← coe_max, ← coe_min]; norm_num

theorem cInv_mul_eq_zero {a : ℝ} : ((a : EReal) * cInv = 0) ↔ a = 0 := by
  obtain ⟨q, hq, h⟩ := cInv_pos
  rw [h, ← EReal.coe_mul, EReal.coe_eq_zero, mul_eq_zero]
  exact ⟨fun h => h.resolve_right hq.ne', Or.inl⟩

/-- The exponent the reference takes of a maximum `a`. -/
def refExp (a : EReal) : EReal :=
  if a * cInv = 0 then 0
  else min cHi (max cLo (Ideal.liftRound Int.floor (Ideal.log (a * cInv) * cLog2e) + cOne))

/-- The exponent the kernel takes of it, as a word. -/
def kerExp (a : EReal) : BitVec 32 :=
  if a * cInv = 0 then 0#32
  else Ideal.fptosi 32 (min cHi (max cLo (Ideal.liftRound Int.floor (Ideal.log (a * cInv) * cLog2e) + cOne)))

/-- Of a nonnegative real both are one integer between -125 and 126. -/
theorem exp_int {a : ℝ} (ha : 0 ≤ a) : ∃ n : ℤ, -125 ≤ n ∧ n ≤ 126 ∧ refExp a = ((n : ℝ) : EReal) ∧
    kerExp a = BitVec.ofInt 32 n := by
  unfold refExp kerExp
  by_cases h0 : (a : EReal) * cInv = 0
  · exact ⟨0, by norm_num, by norm_num, by simp [h0], by simp [h0]⟩
  · have ha' : 0 < a := lt_of_le_of_ne ha fun h => h0 (cInv_mul_eq_zero.2 h.symm)
    obtain ⟨q, hq, hc⟩ := cInv_pos
    have hv : 0 < a * q := mul_pos ha' hq
    rw [if_neg h0, if_neg h0, hc, ← EReal.coe_mul, Ideal.log_coe, if_neg (not_le.2 hv), ← EReal.coe_mul,
      Ideal.liftRound_coe, cOne_eq, cLo_eq, cHi_eq, ← EReal.coe_add, ← coe_max, ← coe_min]
    generalize ⌊Real.log (a * q) * (Real.log 2)⁻¹⌋ = k
    have hk : min (126 : ℝ) (max (-125) ((k : ℝ) + 1)) = ((min 126 (max (-125) (k + 1)) : ℤ) : ℝ) := by push_cast; rfl
    rw [hk]
    generalize hn : min 126 (max (-125) (k + 1)) = n
    have h1 : -125 ≤ n := by omega
    have h2 : n ≤ 126 := by omega
    refine ⟨n, h1, h2, rfl, ?_⟩
    rw [Ideal.fptosi, Ideal.toIntClamped_coe, Int.floor_intCast, Int.ceil_intCast, ite_self]
    congr 1
    omega

theorem shift_fields (k : Fin 255) :
    ((BitVec.ofNat 32 k.val <<< 23).extractLsb' 23 8).toNat = k.val ∧
    ((BitVec.ofNat 32 k.val <<< 23).extractLsb' 0 23).toNat = 0 ∧
    (BitVec.ofNat 32 k.val <<< 23).extractLsb' 31 1 = 0#1 := by
  revert k; decide

/-- A biased exponent shifted into place is the power of two. -/
theorem ofBits_shift (n : ℤ) (h1 : -126 ≤ n) (h2 : n ≤ 127) :
    Ideal.ofBits .f32 ((BitVec.ofInt 32 n + 127#32) <<< 23) = (((2 : ℝ) ^ n : ℝ) : EReal) := by
  obtain ⟨k, hk⟩ : ∃ k : ℕ, n = (k : ℤ) - 127 := ⟨(n + 127).toNat, by omega⟩
  have hk' : BitVec.ofInt 32 n + 127#32 = BitVec.ofNat 32 k := by
    rw [hk, show (127#32 : BitVec 32) = BitVec.ofInt 32 127 from rfl, ← BitVec.ofInt_add, sub_add_cancel]
    exact BitVec.ofInt_natCast 32 k
  obtain ⟨e1, e2, e3⟩ := shift_fields ⟨k, by omega⟩
  rw [hk']
  simp only at e1 e2 e3
  rw [Ideal.ofBits, Ideal.ieee]
  simp only [e1, e2, e3, show 8 + 23 = 31 from rfl]
  rw [if_neg (by omega), if_neg (by omega)]
  have e : ((k : ℤ) - (2 ^ (8 - 1) - 1) - (23 : ℕ)) = n - 23 := by omega
  have h : (1 * ((2 ^ 23 + 0 : ℕ) : ℝ)) * (2 : ℝ) ^ (n - 23) = (2 : ℝ) ^ n := by
    rw [zpow_sub₀ (by norm_num)]; norm_num; field_simp
  rw [← h, ← e]
  rfl

theorem exp2_int (n : ℤ) : Ideal.exp2 ((n : ℝ) : EReal) = (((2 : ℝ) ^ n : ℝ) : EReal) := by
  rw [Ideal.exp2_coe]; congr 1; exact Real.rpow_intCast 2 n

/-- The reference's scale. -/
def refScale (a : EReal) : EReal := Ideal.exp2 (refExp a)
/-- The kernel's scale. -/
def kerScale (a : EReal) : EReal := Ideal.ofBits .f32 ((kerExp a + 127#32) <<< 23)
/-- The reference's reciprocal scale. -/
def refInv (a : EReal) : EReal := Ideal.exp2 (0 - refExp a)
/-- The kernel's reciprocal scale. -/
def kerInv (a : EReal) : EReal := Ideal.ofBits .f32 ((0#32 - kerExp a + 127#32) <<< 23)

/-- The kernel's bit pattern and the reference's power are one scale, a power of two with an integer exponent, and
    so are the reciprocals. -/
theorem scale_eq {a : ℝ} (ha : 0 ≤ a) : ∃ n : ℤ, refExp a = ((n : ℝ) : EReal) ∧
    (((kerExp a).toInt : ℝ) : EReal) = ((n : ℝ) : EReal) ∧
    kerScale a = refScale a ∧ kerInv a = (((2 : ℝ) ^ (-n) : ℝ) : EReal) ∧ refInv a = (((2 : ℝ) ^ (-n) : ℝ) : EReal) := by
  obtain ⟨n, h1, h2, hr, hk⟩ := exp_int ha
  refine ⟨n, hr, ?_, ?_, ?_, ?_⟩
  · rw [hk, BitVec.toInt_ofInt, Int.bmod_eq_of_le (by omega) (by omega)]
  · rw [kerScale, refScale, hr, hk, ofBits_shift n (by omega) (by omega), exp2_int]
  · rw [kerInv, hk, ← ofBits_shift (-n) (by omega) (by omega)]
    congr 3
    rw [BitVec.ofInt_neg]; simp
  · rw [refInv, hr, ← EReal.coe_zero, ← EReal.coe_sub, zero_sub, ← Int.cast_neg, exp2_int]

/-! ### One row -/

/-- Vocabulary entry `d` is the label of column `c`. -/
abbrev Hit (lab : Fin 256 → BitVec 32) (d : Fin 8192) (c : Fin 256) : Prop := BitVec.ofNat 32 d.val = lab c

section Row
variable (x : Fin 8192 → EReal) (s : EReal) (lab : Fin 256 → BitVec 32) (γ : Fin 256 → EReal) (w : EReal)
  (live : Prop) [Decidable live]

/-- The scaled logits' maximum. -/
def rowMax : EReal := (Finset.univ : Finset (Fin 8192)).fold max ⊥ fun d => x d * s
/-- The sum of the exponentials of the shifted logits. -/
def rowSum : EReal := ∑ d, Ideal.exp (x d * s - rowMax x s)
/-- The softmax. -/
def refP (d : Fin 8192) : EReal := Ideal.exp (x d * s - rowMax x s - Ideal.log (rowSum x s))
/-- The occupation of vocabulary entry `d`. -/
def refOcc (d : Fin 8192) : EReal := 0 + ∑ c, γ c * if Hit lab d c then cOne else 0
/-- The gradient. -/
def refG (d : Fin 8192) : EReal := if live then w * (refP x s d - refOcc lab γ d) else 0
/-- Its greatest magnitude. -/
def refA : EReal := (Finset.univ : Finset (Fin 8192)).fold max ⊥ fun d => max (refG x s lab γ w live d) (-refG x s lab γ w live d)
/-- The gradient's code. -/
def refD (d : Fin 8192) : EReal := clip (refG x s lab γ w live d * refInv (refA x s lab γ w live))
/-- Its scale. -/
def refS : EReal := refScale (refA x s lab γ w live)

end Row

section KerRow
variable (x : Fin 8192 → EReal) (lse lpb u k : EReal) (y : Fin 256 → EReal) (γ : Fin 256 → EReal) (eqm : Fin 256 → Fin 256 → EReal)
  (rep : Fin 256 → EReal) (oh : Fin 8192 → Fin 256 → EReal) (cm : Fin 8192 → EReal) (w : EReal) (live : Prop) [Decidable live]

/-- The probability of column `c`'s label. -/
def kerP (c : Fin 256) : EReal := if c.val = 63 then Ideal.exp2 lpb else Ideal.exp2 (y c + lpb)
/-- The occupation of column `c`'s label, in three parts. -/
def kerOcc (c : Fin 256) : EReal :=
  (0 + ∑ c', γ c' * eqm c' c) + (0 + ∑ c', (γ c' - γ c') * eqm c' c)
    + (0 + ∑ c', (γ c' - γ c' - (γ c' - γ c')) * eqm c' c)
/-- The gradient at the first column of a label, zero at the others. -/
def kerG (c : Fin 256) : EReal := if 0 < rep c then w * (kerP lpb y c - kerOcc γ eqm c) else 0
/-- The greatest magnitude. -/
def kerA : EReal :=
  if live then max ((Finset.univ : Finset (Fin 256)).fold max ⊥ fun c => max (kerG lpb y γ eqm rep w c) (-kerG lpb y γ eqm rep w c))
    (max w (-w) * Ideal.exp2 u) else 0
/-- The code of column `c`. -/
def kerCode (c : Fin 256) : EReal :=
  if live then clip (kerG lpb y γ eqm rep w c * kerInv (kerA lpb u y γ eqm rep w live)) else 0
/-- The exponent subtracted from every logit. -/
def kerOff : EReal :=
  if live then lse - (((kerExp (kerA lpb u y γ eqm rep w live)).toInt : ℝ) : EReal) * cNegOne - Ideal.log (max w (-w)) * cLog2e else ⊤
/-- The code the kernel stores at vocabulary entry `d`. -/
def kerD (d : Fin 8192) : EReal :=
  if cm d < 0 then 0 + ∑ c, kerCode lpb u y γ eqm rep w live c * oh d c
  else clip (Ideal.exp2 (x d * k - kerOff lse lpb u y γ eqm rep w live) * if w < 0 then cNegOne else cOne)
/-- The scale the kernel stores. -/
def kerS : EReal := kerScale (kerA lpb u y γ eqm rep w live)

end KerRow

end Cert.Row

end
-- ==== Proof.RowEq.lean ====
/-
  The equation of one row: what the kernel computes from the row's logarithm of the partition function, its greatest
  unlabelled logit and its label columns is what the reference computes from the whole softmax.
-/
module

public import proofs.«01_k».proof.Proof.Row

@[expose] public section

noncomputable section

namespace Cert.Row

open Idealize.ShloMosaic
open scoped BigOperators

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem log2_pos : 0 < Real.log 2 := Real.log_pos (by norm_num)

/-- The softmax of real logits, in the reals. -/
theorem softmax_real (x : Fin 8192 → ℝ) (s : ℝ) :
    ∃ (m L : ℝ), rowMax (fun d => (x d : EReal)) s = (m : EReal) ∧
      Ideal.log (rowSum (fun d => (x d : EReal)) s) = (L : EReal) ∧
      ∀ d, refP (fun d => (x d : EReal)) s d = ((Real.exp (x d * s - m - L) : ℝ) : EReal) := by
  obtain ⟨i₀, -, h⟩ := fold_max_coe fun d => x d * s
  have hm : rowMax (fun d => (x d : EReal)) s = ((x i₀ * s : ℝ) : EReal) := by
    rw [← h]; unfold rowMax; simp only [EReal.coe_mul]
  have hs : rowSum (fun d => (x d : EReal)) s = ((∑ d, Real.exp (x d * s - x i₀ * s) : ℝ) : EReal) := by
    unfold rowSum; rw [hm, coe_sum]
    refine Finset.sum_congr rfl fun d _ => ?_
    rw [← EReal.coe_mul, ← EReal.coe_sub, Ideal.exp_coe]
  have hpos : 0 < ∑ d : Fin 8192, Real.exp (x d * s - x i₀ * s) :=
    Finset.sum_pos (fun d _ => Real.exp_pos _) ⟨0, Finset.mem_univ _⟩
  have hl : Ideal.log (rowSum (fun d => (x d : EReal)) s) = ((Real.log (∑ d, Real.exp (x d * s - x i₀ * s)) : ℝ) : EReal) := by
    rw [hs, Ideal.log_coe, if_neg (not_le.2 hpos)]
  refine ⟨_, _, hm, hl, fun d => ?_⟩
  unfold refP
  rw [hm, hl, ← EReal.coe_mul, ← EReal.coe_sub, ← EReal.coe_sub, Ideal.exp_coe]

/-- What the host hands the kernel for one row, said in the row's own data. -/
structure Given (x : Fin 8192 → ℝ) (s : ℝ) (lab : Fin 256 → BitVec 32) (γ : Fin 256 → ℝ)
    (lse lpb u k : EReal) (y : Fin 256 → EReal) (eqm : Fin 256 → Fin 256 → EReal)
    (rep : Fin 256 → EReal) (oh : Fin 8192 → Fin 256 → EReal) (cm : Fin 8192 → EReal) : Prop where
  hs : 0 ≤ s
  hlab : ∀ c, (lab c).toInt < 8192
  hblank : lab 63 = 0
  hk : k = Ideal.div s (Real.log 2 : ℝ)
  hlse : lse = Ideal.div (rowMax (fun d => (x d : EReal)) s + Ideal.log (rowSum (fun d => (x d : EReal)) s)) (Real.log 2 : ℝ)
  hlpb : lpb = (x 0 : EReal) * k - lse
  hy : ∀ c d, c.val ≠ 63 → Hit lab d c → y c = ((x d : EReal) - x 0) * k
  hu : u = (Finset.univ : Finset (Fin 8192)).fold max ⊥ (fun d => min (x d : EReal) (cm d)) * k - lse
  heq : ∀ c' c, eqm c' c = if lab c' = lab c then 1 else 0
  hrep : ∀ c, rep c = if 0 ≤ (lab c).toInt ∧ ∀ c' < c, lab c' ≠ lab c then 1 else 0
  hoh : ∀ d c, oh d c = if Hit lab d c then 1 else 0
  hcm : ∀ d, cm d = if ∃ c, Hit lab d c then ⊥ else ⊤

section
variable {x : Fin 8192 → ℝ} {s : ℝ} {lab : Fin 256 → BitVec 32} {γ : Fin 256 → ℝ}
    {lse lpb u k : EReal} {y : Fin 256 → EReal} {eqm : Fin 256 → Fin 256 → EReal}
    {rep : Fin 256 → EReal} {oh : Fin 8192 → Fin 256 → EReal} {cm : Fin 8192 → EReal}
    (G : Given x s lab γ lse lpb u k y eqm rep oh cm)

include G in
/-- The row's constants are real, and the kernel's exponential is the softmax. -/
theorem Given.reals : ∃ (l κ : ℝ), lse = (l : EReal) ∧ k = (κ : EReal) ∧ 0 ≤ κ ∧ ∃ P : Fin 8192 → ℝ,
    (∀ d, P d = (2 : ℝ) ^ (x d * κ - l)) ∧ ∀ d, refP (fun d => (x d : EReal)) s d = (P d : EReal) := by
  obtain ⟨m, L, hm, hl, hP⟩ := softmax_real x s
  refine ⟨(m + L) * (1 / Real.log 2), s * (1 / Real.log 2), ?_, ?_, ?_, fun d => Real.exp (x d * s - m - L), fun d => ?_, hP⟩
  · rw [G.hlse, hm, hl, Ideal.div_coe log2_pos.ne', ← EReal.coe_add, ← EReal.coe_mul]
  · rw [G.hk, Ideal.div_coe log2_pos.ne', ← EReal.coe_mul]
  · exact mul_nonneg G.hs (by have := log2_pos; positivity)
  · rw [Real.rpow_def_of_pos (by norm_num)]
    refine congrArg Real.exp ?_
    have := log2_pos.ne'
    field_simp
    ring

theorem hit_inj {d d' : Fin 8192} {c : Fin 256} (h : Hit lab d c) (h' : Hit lab d' c) : d = d' := by
  have : BitVec.ofNat 32 d.val = BitVec.ofNat 32 d'.val := h.trans h'.symm
  have := congrArg BitVec.toNat this
  simp only [BitVec.toNat_ofNat] at this
  exact Fin.ext (by omega)

include G in
theorem Given.hit_of_rep {c : Fin 256} (h : 0 < rep c) :
    (∃ d, Hit lab d c) ∧ ∀ c' < c, lab c' ≠ lab c := by
  rw [G.hrep] at h
  split at h
  · rename_i hc
    refine ⟨⟨⟨(lab c).toNat, ?_⟩, ?_⟩, hc.2⟩
    · have h1 := G.hlab c
      have h2 := hc.1
      rw [BitVec.toInt_eq_toNat_cond] at h1 h2
      split at h1 <;> split at h2 <;> omega
    · exact BitVec.ofNat_toNat _ _ |>.trans (BitVec.setWidth_eq _)
  · exact absurd h (lt_irrefl _)

include G in
/-- Every label has one first column. -/
theorem Given.rep_of_hit {d : Fin 8192} {c : Fin 256} (h : Hit lab d c) : ∃ c₀, Hit lab d c₀ ∧ 0 < rep c₀ := by
  classical
  have hne : (Finset.univ.filter fun c => Hit lab d c).Nonempty := ⟨c, by simpa using h⟩
  obtain ⟨c₀, hc₀, hmin⟩ := Finset.exists_min_image _ id hne
  have h0 : Hit lab d c₀ := by simpa using hc₀
  refine ⟨c₀, h0, ?_⟩
  rw [G.hrep, if_pos]
  · exact one_pos
  · refine ⟨?_, fun c' hc' he => ?_⟩
    · rw [← h0, BitVec.toInt_eq_toNat_cond, BitVec.toNat_ofNat]
      have := d.isLt
      split <;> omega
    · have := hmin c' (by simpa using h0.trans he.symm)
      exact absurd hc' (not_lt.2 this)

include G in
theorem Given.rep_unique {d : Fin 8192} {c c' : Fin 256} (h : Hit lab d c) (h' : Hit lab d c') (hr : 0 < rep c) (hr' : 0 < rep c') :
    c = c' := by
  rcases lt_trichotomy c c' with hlt | he | hlt
  · exact absurd (h.symm.trans h') ((G.hit_of_rep hr').2 c hlt)
  · exact he
  · exact absurd (h'.symm.trans h) ((G.hit_of_rep hr).2 c' hlt)

/-- The occupation, in the reals. -/
def occ (lab : Fin 256 → BitVec 32) (γ : Fin 256 → ℝ) (d : Fin 8192) : ℝ := ∑ c, if Hit lab d c then γ c else 0

theorem refOcc_coe (d : Fin 8192) : refOcc lab (fun c => (γ c : EReal)) d = (occ lab γ d : EReal) := by
  unfold refOcc occ
  rw [coe_sum, zero_add]
  refine Finset.sum_congr rfl fun c _ => ?_
  rw [cOne_eq]
  split <;> simp

include G in
theorem Given.kerOcc_coe {d : Fin 8192} {c : Fin 256} (h : Hit lab d c) :
    kerOcc (fun c => (γ c : EReal)) eqm c = (occ lab γ d : EReal) := by
  unfold kerOcc occ
  have e : ∀ c' : Fin 256, (γ c' : EReal) - γ c' = 0 := fun c' => by rw [← EReal.coe_sub, sub_self, EReal.coe_zero]
  simp only [e, sub_zero, zero_mul, Finset.sum_const_zero, add_zero, zero_add]
  rw [coe_sum]
  refine Finset.sum_congr rfl fun c' _ => ?_
  rw [G.heq]
  by_cases hc : lab c' = lab c
  · rw [if_pos hc, if_pos (show Hit lab d c' from h.trans hc.symm), mul_one]
  · rw [if_neg hc, if_neg (fun h' : Hit lab d c' => hc (h'.symm.trans h)), mul_zero, EReal.coe_zero]

theorem exp2_real (r : ℝ) : Ideal.exp2 (r : EReal) = (((2 : ℝ) ^ r : ℝ) : EReal) := rfl

include G in
theorem Given.kerP_coe {P : Fin 8192 → ℝ} {l κ : ℝ} (hl : lse = (l : EReal)) (hκ : k = (κ : EReal))
    (hP : ∀ d, P d = (2 : ℝ) ^ (x d * κ - l)) {d : Fin 8192} {c : Fin 256} (h : Hit lab d c) :
    kerP lpb y c = (P d : EReal) := by
  unfold kerP
  split
  · rename_i hc
    have hc' : c = 63 := Fin.ext hc
    have hd : d = 0 := by
      have h2 : BitVec.ofNat 32 d.val = 0 := by rw [← G.hblank, ← hc']; exact h
      have := congrArg BitVec.toNat h2
      simp only [BitVec.toNat_ofNat] at this
      have hh := d.isLt
      exact Fin.ext (by simp at this ⊢; omega)
    rw [G.hlpb, hκ, hl, ← EReal.coe_mul, ← EReal.coe_sub, exp2_real, hP, hd]
  · rename_i hc
    rw [G.hy c d hc h, G.hlpb, hκ, hl, ← EReal.coe_mul, ← EReal.coe_sub, ← EReal.coe_sub, ← EReal.coe_mul, ← EReal.coe_add,
      exp2_real, hP]
    congr 2
    ring

variable (w : ℝ)

/-- The gradient, in the reals. -/
def gr (lab : Fin 256 → BitVec 32) (γ : Fin 256 → ℝ) (P : Fin 8192 → ℝ) (w : ℝ) (d : Fin 8192) : ℝ := w * (P d - occ lab γ d)

theorem refG_coe {P : Fin 8192 → ℝ} (hP : ∀ d, refP (fun d => (x d : EReal)) s d = (P d : EReal)) (d : Fin 8192) :
    refG (fun d => (x d : EReal)) s lab (fun c => (γ c : EReal)) w True d = (gr lab γ P w d : EReal) := by
  unfold refG gr
  rw [if_pos trivial, hP, refOcc_coe, ← EReal.coe_sub, ← EReal.coe_mul]

include G in
theorem Given.kerG_coe {P : Fin 8192 → ℝ} {l κ : ℝ} (hl : lse = (l : EReal)) (hκ : k = (κ : EReal))
    (hP : ∀ d, P d = (2 : ℝ) ^ (x d * κ - l)) {d : Fin 8192} {c : Fin 256} (h : Hit lab d c) (hr : 0 < rep c) :
    kerG lpb y (fun c => (γ c : EReal)) eqm rep w c = (gr lab γ P w d : EReal) := by
  unfold kerG gr
  rw [if_pos hr, G.kerP_coe hl hκ hP h, G.kerOcc_coe h, ← EReal.coe_sub, ← EReal.coe_mul]

theorem abs_coe (r : ℝ) : max (r : EReal) (-(r : EReal)) = ((|r| : ℝ) : EReal) := by
  rw [← EReal.coe_neg, ← coe_max]; rfl

theorem exists_unlabelled (lab : Fin 256 → BitVec 32) : ∃ d, ¬ ∃ c, Hit lab d c := by
  by_contra h
  push Not at h
  choose f hf using h
  have : Function.Injective f := fun d d' e => hit_inj (hf d) (by rw [e]; exact hf d')
  have := Fintype.card_le_of_injective f this
  simp at this

include G in
/-- The greatest unlabelled probability is attained. -/
theorem Given.u_spec {P : Fin 8192 → ℝ} {l κ : ℝ} (hl : lse = (l : EReal)) (hκ : k = (κ : EReal)) (hκ0 : 0 ≤ κ)
    (hP : ∀ d, P d = (2 : ℝ) ^ (x d * κ - l)) :
    ∃ d₁, (¬ ∃ c, Hit lab d₁ c) ∧ (∀ d, (¬ ∃ c, Hit lab d c) → P d ≤ P d₁) ∧ Ideal.exp2 u = (P d₁ : EReal) := by
  classical
  obtain ⟨d₀, hd₀⟩ := exists_unlabelled lab
  have hne : (Finset.univ.filter fun d => ¬ ∃ c, Hit lab d c).Nonempty := ⟨d₀, by simpa using hd₀⟩
  obtain ⟨d₁, hd₁, hmax⟩ := Finset.exists_max_image _ x hne
  have h1 : ¬ ∃ c, Hit lab d₁ c := (Finset.mem_filter.1 hd₁).2
  have hmax' : ∀ d, (¬ ∃ c, Hit lab d c) → x d ≤ x d₁ := fun d hd => hmax d (Finset.mem_filter.2 ⟨Finset.mem_univ _, hd⟩)
  refine ⟨d₁, h1, fun d hd => ?_, ?_⟩
  · rw [hP, hP]
    exact Real.rpow_le_rpow_of_exponent_le (by norm_num) (by have := mul_le_mul_of_nonneg_right (hmax' d hd) hκ0; linarith)
  · have : (Finset.univ : Finset (Fin 8192)).fold max ⊥ (fun d => min (x d : EReal) (cm d)) = (x d₁ : EReal) := by
      refine le_antisymm ((Finset.fold_max_le _).2 ⟨bot_le, fun d _ => ?_⟩) ((Finset.le_fold_max _).2 (Or.inr ⟨d₁, Finset.mem_univ _, ?_⟩))
      · rw [G.hcm]
        by_cases hd : ∃ c, Hit lab d c
        · rw [if_pos hd]; exact (min_le_right _ _).trans bot_le
        · exact (min_le_left _ _).trans (EReal.coe_le_coe_iff.2 (hmax' d hd))
      · rw [G.hcm, if_neg h1]; exact le_min le_rfl le_top
    rw [G.hu, this, hκ, hl, ← EReal.coe_mul, ← EReal.coe_sub, exp2_real, hP]

theorem occ_unlabelled {d : Fin 8192} (h : ¬ ∃ c, Hit lab d c) : occ lab γ d = 0 :=
  Finset.sum_eq_zero fun c _ => if_neg fun hc => h ⟨c, hc⟩

include G in
/-- A live row: both maxima are one nonnegative real. -/
theorem Given.max_eq {P : Fin 8192 → ℝ} {l κ : ℝ} (hl : lse = (l : EReal)) (hκ : k = (κ : EReal)) (hκ0 : 0 ≤ κ)
    (hP : ∀ d, P d = (2 : ℝ) ^ (x d * κ - l)) (hPr : ∀ d, refP (fun d => (x d : EReal)) s d = (P d : EReal)) :
    ∃ a : ℝ, 0 ≤ a ∧ refA (fun d => (x d : EReal)) s lab (fun c => (γ c : EReal)) w True = (a : EReal) ∧
      kerA lpb u y (fun c => (γ c : EReal)) eqm rep w True = (a : EReal) := by
  obtain ⟨i₀, hi, ha⟩ := fold_max_coe fun d => |gr lab γ P w d|
  obtain ⟨d₁, hd₁, hmax, hu⟩ := G.u_spec hl hκ hκ0 hP
  have hPpos : ∀ d, 0 < P d := fun d => by rw [hP]; positivity
  have hun : ∀ d, (¬ ∃ c, Hit lab d c) → |gr lab γ P w d| = |w| * P d := fun d hd => by
    rw [gr, occ_unlabelled hd, sub_zero, abs_mul, abs_of_pos (hPpos d)]
  refine ⟨|gr lab γ P w i₀|, abs_nonneg _, ?_, ?_⟩
  · rw [← ha]; unfold refA
    simp only [refG_coe w hPr, abs_coe]
  · unfold kerA
    rw [if_pos trivial, hu, abs_coe, ← EReal.coe_mul]
    refine le_antisymm (max_le ((Finset.fold_max_le _).2 ⟨bot_le, fun c _ => ?_⟩) ?_) ?_
    · by_cases hr : 0 < rep c
      · obtain ⟨⟨d, hd⟩, -⟩ := G.hit_of_rep hr
        rw [G.kerG_coe w hl hκ hP hd hr, abs_coe]
        exact EReal.coe_le_coe_iff.2 (hi d)
      · have : kerG lpb y (fun c => (γ c : EReal)) eqm rep w c = 0 := by unfold kerG; rw [if_neg hr]
        rw [this, neg_zero, max_self, ← EReal.coe_zero]
        exact EReal.coe_le_coe_iff.2 (abs_nonneg _)
    · rw [← hun d₁ hd₁]; exact EReal.coe_le_coe_iff.2 (hi d₁)
    · by_cases h : ∃ c, Hit lab i₀ c
      · obtain ⟨c, hc⟩ := h
        obtain ⟨c₀, hc₀, hr⟩ := G.rep_of_hit hc
        refine le_max_of_le_left ((Finset.le_fold_max _).2 (Or.inr ⟨c₀, Finset.mem_univ _, ?_⟩))
        rw [G.kerG_coe w hl hκ hP hc₀ hr, abs_coe]
      · refine le_max_of_le_right (EReal.coe_le_coe_iff.2 ?_)
        rw [hun i₀ h]
        exact mul_le_mul_of_nonneg_left (hmax i₀ h) (abs_nonneg _)

theorem cm_lt (G : Given x s lab γ lse lpb u k y eqm rep oh cm) (d : Fin 8192) : cm d < 0 ↔ ∃ c, Hit lab d c := by
  rw [G.hcm]
  by_cases h : ∃ c, Hit lab d c
  · simp [h]
  · simp [h]

/-- The sign times the magnitude. -/
theorem sign_mul (w : ℝ) : (|w| * if w < 0 then -1 else 1) = w := by
  split
  · rename_i h; rw [abs_of_neg h]; ring
  · rename_i h; rw [abs_of_nonneg (not_lt.1 h), mul_one]

include G in
/-- A live row: codes and scale agree. -/
theorem Given.live_eq (d : Fin 8192) :
    kerD (fun d => (x d : EReal)) lse lpb u k y (fun c => (γ c : EReal)) eqm rep oh cm w True d
        = refD (fun d => (x d : EReal)) s lab (fun c => (γ c : EReal)) w True d ∧
      kerS lpb u y (fun c => (γ c : EReal)) eqm rep w True = refS (fun d => (x d : EReal)) s lab (fun c => (γ c : EReal)) w True := by
  obtain ⟨l, κ, hl, hκ, hκ0, P, hP, hPr⟩ := G.reals
  obtain ⟨a, ha, hra, hka⟩ := G.max_eq w hl hκ hκ0 hP hPr
  obtain ⟨n, hn1, hn2, hsc, hki, hri⟩ := scale_eq ha
  constructor
  swap
  · unfold kerS refS; rw [hka, hra, hsc]
  unfold kerD refD
  rw [hra, hri, refG_coe w hPr]
  by_cases h : ∃ c, Hit lab d c
  · rw [if_pos ((cm_lt G d).2 h), zero_add]
    obtain ⟨c, hc⟩ := h
    obtain ⟨c₀, hc₀, hr⟩ := G.rep_of_hit hc
    rw [Finset.sum_eq_single c₀]
    · rw [G.hoh, if_pos hc₀, mul_one]
      unfold kerCode
      rw [if_pos trivial, G.kerG_coe w hl hκ hP hc₀ hr, hka, hki]
    · intro c' _ hne
      rw [G.hoh]
      by_cases hc' : Hit lab d c'
      · have hr' : ¬ 0 < rep c' := fun hr' => hne (G.rep_unique hc' hc₀ hr' hr)
        unfold kerCode kerG
        rw [if_pos trivial, if_neg hr', zero_mul, clip_zero, zero_mul]
      · rw [if_neg hc', mul_zero]
    · exact fun h => absurd (Finset.mem_univ _) h
  · rw [if_neg (fun h' => h ((cm_lt G d).1 h'))]
    refine congrArg clip ?_
    unfold kerOff
    rw [if_pos trivial, hka, hn2, abs_coe, hl, hκ, cNegOne_eq, ← EReal.coe_mul, ← EReal.coe_mul, ← EReal.coe_sub, Ideal.log_coe]
    have hgr : gr lab γ P w d = w * P d := by rw [gr, occ_unlabelled h, sub_zero]
    rw [hgr]
    by_cases hw : w = 0
    · subst hw
      rw [if_pos (by simp), EReal.bot_mul_coe_of_pos (inv_pos.2 log2_pos), EReal.coe_sub_bot, EReal.sub_top, Ideal.exp2_bot,
        zero_mul, zero_mul, EReal.coe_zero, zero_mul]
    · have hw' : 0 < |w| := abs_pos.2 hw
      rw [if_neg (not_le.2 hw'), ← EReal.coe_mul, ← EReal.coe_sub, ← EReal.coe_sub, exp2_real]
      have hs : (if (w : EReal) < 0 then ((-1 : ℝ) : EReal) else cOne) = ((if w < 0 then -1 else 1 : ℝ) : EReal) := by
        rw [cOne_eq]
        by_cases h0 : w < 0
        · rw [if_pos h0, if_pos (by exact_mod_cast h0)]
        · rw [if_neg h0, if_neg (by exact_mod_cast h0)]
      rw [hs, ← EReal.coe_mul, ← EReal.coe_mul, EReal.coe_eq_coe_iff, hP]
      have h2 : (2 : ℝ) ^ (x d * κ - (l - (n : ℝ) * -1 - Real.log |w| * (Real.log 2)⁻¹))
          = (2 : ℝ) ^ (x d * κ - l) * (2 : ℝ) ^ (-n) * |w| := by
        have e : x d * κ - (l - (n : ℝ) * -1 - Real.log |w| * (Real.log 2)⁻¹)
            = (x d * κ - l) + ((-n : ℤ) : ℝ) + Real.log |w| * (Real.log 2)⁻¹ := by
          push_cast; ring
        have e2 : (2 : ℝ) ^ (Real.log |w| * (Real.log 2)⁻¹) = |w| := by
          rw [Real.rpow_def_of_pos (by norm_num), mul_comm (Real.log |w|), mul_inv_cancel_left₀ log2_pos.ne', Real.exp_log hw']
        rw [e, Real.rpow_add (by norm_num), Real.rpow_add (by norm_num), Real.rpow_intCast, e2]
      rw [h2]
      have := sign_mul w
      calc _ = (2 : ℝ) ^ (x d * κ - l) * (2 : ℝ) ^ (-n) * (|w| * if w < 0 then -1 else 1) := by ring
        _ = _ := by rw [this]; ring

include G in
/-- A row past the clip's length: both store zero, with scale one. -/
theorem Given.dead_eq (d : Fin 8192) :
    kerD (fun d => (x d : EReal)) lse lpb u k y (fun c => (γ c : EReal)) eqm rep oh cm w False d
        = refD (fun d => (x d : EReal)) s lab (fun c => (γ c : EReal)) w False d ∧
      kerS lpb u y (fun c => (γ c : EReal)) eqm rep w False = refS (fun d => (x d : EReal)) s lab (fun c => (γ c : EReal)) w False := by
  obtain ⟨l, κ, hl, hκ, hκ0, P, hP, hPr⟩ := G.reals
  have hra : refA (fun d => (x d : EReal)) s lab (fun c => (γ c : EReal)) w False = ((0 : ℝ) : EReal) := by
    unfold refA refG
    simp only [if_false, neg_zero, max_self]
    refine le_antisymm ((Finset.fold_max_le _).2 ⟨bot_le, fun d _ => le_rfl⟩) ((Finset.le_fold_max _).2 (Or.inr ⟨0, Finset.mem_univ _, le_rfl⟩))
  have hka : kerA lpb u y (fun c => (γ c : EReal)) eqm rep w False = ((0 : ℝ) : EReal) := by unfold kerA; simp
  obtain ⟨n, hn1, hn2, hsc, hki, hri⟩ := scale_eq (le_refl (0 : ℝ))
  constructor
  swap
  · unfold kerS refS; rw [hka, hra, hsc]
  unfold kerD refD kerCode kerOff refG
  simp only [if_false, zero_mul, clip_zero, Finset.sum_const_zero, add_zero]
  rw [EReal.sub_top, Ideal.exp2_bot, zero_mul, clip_zero, ite_self]

include G in
/-- The row, live or not. -/
theorem Given.row_eq (live : Prop) [Decidable live] (d : Fin 8192) :
    kerD (fun d => (x d : EReal)) lse lpb u k y (fun c => (γ c : EReal)) eqm rep oh cm w live d
        = refD (fun d => (x d : EReal)) s lab (fun c => (γ c : EReal)) w live d ∧
      kerS lpb u y (fun c => (γ c : EReal)) eqm rep w live = refS (fun d => (x d : EReal)) s lab (fun c => (γ c : EReal)) w live := by
  by_cases h : live
  · have e : live = True := propext ⟨fun _ => trivial, fun _ => h⟩
    subst e
    convert G.live_eq w d
  · have e : live = False := propext ⟨h, False.elim⟩
    subst e
    convert G.dead_eq w d

end

/-- Past the clip's length the reference stores zero with scale one. -/
theorem ref_dead (x : Fin 8192 → EReal) (s : EReal) (lab : Fin 256 → BitVec 32) (γ : Fin 256 → EReal) (w : EReal) (live : Prop)
    [Decidable live] (h : ¬ live) (d : Fin 8192) : refD x s lab γ w live d = 0 ∧ refS x s lab γ w live = 1 := by
  have hra : refA x s lab γ w live = ((0 : ℝ) : EReal) := by
    unfold refA refG
    simp only [h, if_false, neg_zero, max_self]
    refine le_antisymm ((Finset.fold_max_le _).2 ⟨bot_le, fun d _ => le_rfl⟩) ((Finset.le_fold_max _).2 (Or.inr ⟨0, Finset.mem_univ _, le_rfl⟩))
  have hre : refExp ((0 : ℝ) : EReal) = 0 := by unfold refExp; rw [if_pos]; simp
  constructor
  · unfold refD refG; rw [if_neg h, zero_mul, clip_zero]
  · unfold refS refScale; rw [hra, hre]
    have := exp2_int 0
    simpa using this

end Cert.Row

end
-- ==== Proof.Host.lean ====
module

public import proofs.«01_k».proof.Proof.Gen.KernelIdeal.Frame
public import Idealize.ShloMosaic.Lib.StableHlo.ReadAt
public import Idealize.ShloMosaic.Lib.Pointwise
public import proofs.«01_k».proof.Proof.RowEq
public import Idealize.ShloMosaic.Lib.Pipeline.Frame

@[expose] public section

set_option maxRecDepth 16384

noncomputable section

namespace Cert.KernelIdeal.Gen

open Idealize.ShloMosaic Idealize.ShloMosaic.TcCoe Idealize.ShloMosaic.Tactic

abbrev opsA : List (HloOp τ sig (Elt Ideal)) := List.flatten [hostOps0, hostOps0_1, hostOps0_2, hostOps0_3, hostOps0_4, hostOps0_5, hostOps0_6, hostOps0_7]
abbrev opsB : List (HloOp τ sig (Elt Ideal)) := List.flatten [hostOps0_8, hostOps0_9, hostOps0_10, hostOps0_11]
abbrev opsC : List (HloOp τ sig (Elt Ideal)) := List.flatten [hostOps0_12, hostOps0_13]
abbrev opsD : List (HloOp τ sig (Elt Ideal)) := List.flatten [hostOps0_14, hostOps0_15]
abbrev opsE : List (HloOp τ sig (Elt Ideal)) := List.flatten [hostOps0_16, hostOps0_17, hostOps0_18, hostOps0_19, hostOps0_20]
/-- An array, at the type a program reads it at. -/
abbrev rdAs (T : Type) (x : T) : T := x

variable (W : Valuation τ sig (Elt Ideal))

open Cert.Row
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]
theorem negInf : Ideal.ofBits .f32 0xFF800000#32 = ⊥ := by simp [Ideal.ofBits, Ideal.ieee]
theorem posInf : Ideal.ofBits .f32 0x7F800000#32 = ⊤ := by simp [Ideal.ofBits, Ideal.ieee]
theorem sel_eq {α : Type} {n : Nat} (a b : BitVec n) (p q : α) : Scalar.select (IntOp.cmpi .eq a b) p q = if a = b then p else q := by
  unfold Scalar.select IntOp.cmpi
  by_cases h : a = b
  · simp [h]
  · have : (a == b) = false := by simpa using h
    simp [h, this]
theorem tail_eq (V0 : Valuation τ sig (Elt Ideal)) : StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) V0 = StableHlo.after opsE (StableHlo.after opsD (StableHlo.after hostOps0_13 (StableHlo.after hostOps0_12 (StableHlo.after opsB (StableHlo.after opsA V0))))) := by
  rw [← StableHlo.after_append, ← StableHlo.after_append, ← StableHlo.after_append, ← StableHlo.after_append, ← StableHlo.after_append]
  rfl
theorem v103_at (l : Fin 128) (b : Fin 2) (s : Fin 1024) : (rdAs (S2x1024x128.Idx → EReal) (StableHlo.after opsE W (Proc.devRef .tc main_v103))) (ix3 b s l)
    = if BitVec.ofNat 32 l.val = 0#32 then (rdAs (S2x1024x1.Idx → EReal) (W (Proc.devRef .tc main_v71))) (ix3 b s 0)
      else if BitVec.ofNat 32 l.val = 1#32 then (rdAs (S2x1024x1.Idx → EReal) (W (Proc.devRef .tc main_v78))) (ix3 b s 0) * (rdAs (S2x1024x128.Idx → EReal) (W (Proc.devRef .tc main_v45))) (ix3 b s l) - (rdAs (S2x1024x1.Idx → EReal) (W (Proc.devRef .tc main_v71))) (ix3 b s 0)
      else if BitVec.ofNat 32 l.val = 2#32 then (rdAs (S2x1024x1.Idx → EReal) (W (Proc.devRef .tc main_v76))) (ix3 b s 0) * (rdAs (S2x1024x128.Idx → EReal) (W (Proc.devRef .tc main_v45))) (ix3 b s l) - (rdAs (S2x1024x1.Idx → EReal) (W (Proc.devRef .tc main_v71))) (ix3 b s 0)
      else (rdAs (S2x1024x128.Idx → EReal) (W (Proc.devRef .tc main_v45))) (ix3 b s l) := by
  dsimp only [rdAs]
  after_reads_at
  simp only [sel_eq]
theorem v105_at (b : Fin 2) (d : Fin 8192) : (rdAs (S2x16x8192.Idx → EReal) (StableHlo.after opsE W (Proc.devRef .tc main_v105))) (ix3 b 0 d) = (rdAs (S2x1x8192.Idx → EReal) (W (Proc.devRef .tc main_v57))) (ix3 b 0 d) := by
  dsimp only [rdAs]
  after_reads_at
/-- The largest scaled logit of each row. -/
def rowTop (x : FVec Ideal S2x1024x8192 .f32) (a : FVec Ideal S2x1024 .f32) : FVec Ideal S2x1024x1 .f32 :=
  broadcastInDim S2x1024x1 ![0, 1] bcast_S2x1024_S2x1024x1_0_1 (Host.reduce (FloatOps.maximumf (F := Ideal) (φ := .f32)) (mulf x (broadcastInDim S2x1024x8192 ![0, 1, 2] bcast_S2x1024x1_S2x1024x8192_0_1_2 (broadcastInDim S2x1024x1 ![0, 1] bcast_S2x1024_S2x1024x1_0_1 a))) (constant (F := Ideal) S_ .f32 0xFF800000#32) reducesTo_S2x1024x8192_S2x1024_d2 h_S_)
/-- The sum of the exponentials of each row, over its largest one. -/
def rowExp (x : FVec Ideal S2x1024x8192 .f32) (a : FVec Ideal S2x1024 .f32) (w : FVec Ideal S2x1024x1 .f32) : FVec Ideal S2x1024x1 .f32 :=
  broadcastInDim S2x1024x1 ![0, 1] bcast_S2x1024_S2x1024x1_0_1 (Host.reduceAdd (Host.exp (subf (mulf x (broadcastInDim S2x1024x8192 ![0, 1, 2] bcast_S2x1024x1_S2x1024x8192_0_1_2 (broadcastInDim S2x1024x1 ![0, 1] bcast_S2x1024_S2x1024x1_0_1 a))) (broadcastInDim S2x1024x8192 ![0, 1, 2] bcast_S2x1024x1_S2x1024x8192_0_1_2 w))) (constant (F := Ideal) S_ .f32 0x00000000#32) reducesTo_S2x1024x8192_S2x1024_d2 h_S_)
theorem rowTop_at (x : FVec Ideal S2x1024x8192 .f32) (a : FVec Ideal S2x1024 .f32) (b : Fin 2) (s : Fin 1024) : rowTop x a (ix3 b s 0) = rowMax (fun d => x (ix3 b s d)) (a (ix2 b s)) := by
  pointwise [rowTop]
  rw [negInf]; rfl
theorem rowExp_at (x : FVec Ideal S2x1024x8192 .f32) (a : FVec Ideal S2x1024 .f32) (b : Fin 2) (s : Fin 1024) : rowExp x a (rowTop x a) (ix3 b s 0) = rowSum (fun d => x (ix3 b s d)) (a (ix2 b s)) := by
  have h := rowTop_at x a b s
  generalize rowTop x a = w at h ⊢
  pointwise [rowExp]
  rw [h]; rfl
theorem v71_eq : (rdAs (FVec Ideal S2x1024x1 .f32) (StableHlo.after opsD W (Proc.devRef .tc main_v71)))
    = Host.divf (addf (rowTop (W (Proc.devRef .tc main_arg0)) (W (Proc.devRef .tc main_arg1))) (Host.log (rowExp (W (Proc.devRef .tc main_arg0)) (W (Proc.devRef .tc main_arg1)) (rowTop (W (Proc.devRef .tc main_arg0)) (W (Proc.devRef .tc main_arg1))))))
      (broadcastInDim S2x1024x1 ![] bcast_S_S2x1024x1 (rdAs (FVec Ideal S_ .f32) (W (Proc.devRef .tc main_v41)))) := by
  dsimp only [rdAs]
  after_reads_simp
  rfl
theorem lse_read (w w' : FVec Ideal S2x1024x1 .f32) (c : FVec Ideal S_ .f32) (b : Fin 2) (s : Fin 1024) :
    Host.divf (addf w (Host.log w')) (broadcastInDim S2x1024x1 ![] bcast_S_S2x1024x1 c) (ix3 b s 0)
      = Ideal.div (w (ix3 b s 0) + Ideal.log (w' (ix3 b s 0))) (c ix0) := by
  pointwise
theorem lse_at (x : FVec Ideal S2x1024x8192 .f32) (a : FVec Ideal S2x1024 .f32) (c : FVec Ideal S_ .f32) (b : Fin 2) (s : Fin 1024) :
    Host.divf (addf (rowTop x a) (Host.log (rowExp x a (rowTop x a)))) (broadcastInDim S2x1024x1 ![] bcast_S_S2x1024x1 c) (ix3 b s 0)
      = Ideal.div (rowMax (fun d => x (ix3 b s d)) (a (ix2 b s)) + Ideal.log (rowSum (fun d => x (ix3 b s d)) (a (ix2 b s)))) (c ix0) :=
  (lse_read _ _ c b s).trans (congrArg₂ (fun p q : EReal => Ideal.div (p + Ideal.log q) (c ix0)) (rowTop_at x a b s) (rowExp_at x a b s))
theorem v71_at (b : Fin 2) (s : Fin 1024) : (rdAs (FVec Ideal S2x1024x1 .f32) (StableHlo.after opsD W (Proc.devRef .tc main_v71))) (ix3 b s 0)
    = Ideal.div (rowMax (fun d => (rdAs (S2x1024x8192.Idx → EReal) (W (Proc.devRef .tc main_arg0))) (ix3 b s d)) ((rdAs (S2x1024.Idx → EReal) (W (Proc.devRef .tc main_arg1))) (ix2 b s))
      + Ideal.log (rowSum (fun d => (rdAs (S2x1024x8192.Idx → EReal) (W (Proc.devRef .tc main_arg0))) (ix3 b s d)) ((rdAs (S2x1024.Idx → EReal) (W (Proc.devRef .tc main_arg1))) (ix2 b s))))
      ((rdAs (S_.Idx → EReal) (W (Proc.devRef .tc main_v41))) ix0) :=
  (congrFun (v71_eq W) _).trans (lse_at _ _ _ b s)
theorem v76_at (b : Fin 2) (s : Fin 1024) : (rdAs (S2x1024x1.Idx → EReal) (StableHlo.after opsD W (Proc.devRef .tc main_v76))) (ix3 b s 0)
    = (Finset.univ : Finset (Fin 8192)).fold max ⊥ (fun d => min ((rdAs (S2x1024x8192.Idx → EReal) (W (Proc.devRef .tc main_arg0))) (ix3 b s d)) ((rdAs (S2x8192.Idx → EReal) (W (Proc.devRef .tc main_v56))) (ix2 b d))) := by
  dsimp only [rdAs]
  after_reads_at
  simp only [id]
  pointwise
  rw [negInf]
theorem v78_at (b : Fin 2) (s : Fin 1024) : (rdAs (S2x1024x1.Idx → EReal) (StableHlo.after opsD W (Proc.devRef .tc main_v78))) (ix3 b s 0)
    = (rdAs (S2x1024x8192.Idx → EReal) (W (Proc.devRef .tc main_arg0))) (ix3 b s 0) := by
  dsimp only [rdAs]
  after_reads_at
theorem v57_at (b : Fin 2) (d : Fin 8192) : (rdAs (S2x1x8192.Idx → EReal) (StableHlo.after opsD W (Proc.devRef .tc main_v57))) (ix3 b 0 d)
    = (rdAs (S2x8192.Idx → EReal) (W (Proc.devRef .tc main_v56))) (ix2 b d) := by
  dsimp only [rdAs]
  after_reads_at
theorem v45_keep : (rdAs (S2x1024x128.Idx → EReal) (StableHlo.after opsD W (Proc.devRef .tc main_v45))) = W (Proc.devRef .tc main_v45) := by
  dsimp only [rdAs]
  after_reads_simp
/-- The greatest of numbers that are one where a test holds and zero elsewhere exceeds zero iff the test holds somewhere. -/
theorem any_pos (p : Fin 256 → Prop) [DecidablePred p] : (0 < (Finset.univ : Finset (Fin 256)).fold max (⊥ : EReal) (fun c => if p c then 1 else 0)) ↔ ∃ c, p c := by
  constructor
  · intro h
    rcases (Finset.lt_fold_max _).1 h with h | ⟨c, -, h⟩
    · exact absurd h (by simp)
    · by_contra hc; push Not at hc; simp [hc c] at h
  · rintro ⟨c, hc⟩
    exact (Finset.lt_fold_max _).2 (Or.inr ⟨c, Finset.mem_univ _, by simp [hc]⟩)
theorem v53_at (b : Fin 2) (d : Fin 8192) : (rdAs (S2x8192.Idx → EReal) (StableHlo.after hostOps0_12 W (Proc.devRef .tc main_v53))) (ix2 b d)
    = (Finset.univ : Finset (Fin 256)).fold max ⊥ (fun c => (rdAs (S2x8192x256.Idx → EReal) (W (Proc.devRef .tc main_v50))) (ix3 b d c)) := by
  dsimp only [rdAs]
  after_reads_at
  simp only [id]
  rw [negInf]
theorem v55_eq : (rdAs (S2x8192.Idx → BitVec 1) (StableHlo.after hostOps0_12 W (Proc.devRef .tc main_v55)))
    = cmpf .ogt (rdAs (FVec Ideal S2x8192 .f32) (StableHlo.after hostOps0_12 W (Proc.devRef .tc main_v53))) (broadcastInDim S2x8192 ![] bcast_S_S2x8192 (constant (F := Ideal) S_ .f32 0#32)) := by
  dsimp only [rdAs]
  after_reads_simp
theorem gt_at (w : FVec Ideal S2x8192 .f32) (b : Fin 2) (d : Fin 8192) :
    cmpf .ogt w (broadcastInDim S2x8192 ![] bcast_S_S2x8192 (constant (F := Ideal) S_ .f32 0#32)) (ix2 b d) = Ideal.cmp .ogt (w (ix2 b d)) 0 := by
  pointwise
theorem v55_at (b : Fin 2) (d : Fin 8192) : (rdAs (S2x8192.Idx → BitVec 1) (StableHlo.after hostOps0_12 W (Proc.devRef .tc main_v55))) (ix2 b d)
    = Ideal.cmp .ogt ((rdAs (FVec Ideal S2x8192 .f32) (StableHlo.after hostOps0_12 W (Proc.devRef .tc main_v53))) (ix2 b d)) 0 :=
  (congrFun (v55_eq W) _).trans (gt_at _ b d)
theorem cst12 : (rdAs (S_.Idx → EReal) (StableHlo.after hostOps0_12 W (Proc.devRef .tc main_cst_12))) ix0 = ⊥ := by
  dsimp only [rdAs]
  after_reads_at
  exact negInf
theorem cst13 : (rdAs (S_.Idx → EReal) (StableHlo.after hostOps0_12 W (Proc.devRef .tc main_cst_13))) ix0 = ⊤ := by
  dsimp only [rdAs]
  after_reads_at
  exact posInf
theorem v56_read (b : Fin 2) (d : Fin 8192) : (rdAs (S2x8192.Idx → EReal) (StableHlo.after hostOps0_13 W (Proc.devRef .tc main_v56))) (ix2 b d)
    = Scalar.select ((rdAs (S2x8192.Idx → BitVec 1) (W (Proc.devRef .tc main_v55))) (ix2 b d)) ((rdAs (S_.Idx → EReal) (W (Proc.devRef .tc main_cst_12))) ix0) ((rdAs (S_.Idx → EReal) (W (Proc.devRef .tc main_cst_13))) ix0) := by
  dsimp only [rdAs]
  after_reads_at
theorem v50_at (b : Fin 2) (d : Fin 8192) (k : Fin 256) : (rdAs (S2x8192x256.Idx → EReal) (StableHlo.after opsB W (Proc.devRef .tc main_v50))) (ix3 b d k)
    = if BitVec.ofNat 32 d.val = (rdAs (S2x256.Idx → BitVec 32) (W (Proc.devRef .tc main_v24))) (ix2 b k) then 1 else 0 := by
  dsimp only [rdAs]
  after_reads_at
  rw [sel_eq]
theorem v56_at (b : Fin 2) (d : Fin 8192) : (rdAs (S2x8192.Idx → EReal) (StableHlo.after hostOps0_13 (StableHlo.after hostOps0_12 (StableHlo.after opsB W)) (Proc.devRef .tc main_v56))) (ix2 b d)
    = if ∃ c : Fin 256, Hit (fun k => (rdAs (S2x256.Idx → BitVec 32) (W (Proc.devRef .tc main_v24))) (ix2 b k)) d c then ⊥ else ⊤ := by
  rw [v56_read, cst12, cst13, v55_at, v53_at]
  refine (congrArg (fun f : Fin 256 → EReal => Scalar.select (Ideal.cmp .ogt (Finset.univ.fold max ⊥ f) 0) (⊥ : EReal) ⊤)
    (funext fun c => v50_at W b d c)).trans ?_
  have h := any_pos fun c : Fin 256 => BitVec.ofNat 32 d.val = (rdAs (S2x256.Idx → BitVec 32) (W (Proc.devRef .tc main_v24))) (ix2 b c)
  unfold Hit Scalar.select Ideal.cmp
  by_cases hc : ∃ c : Fin 256, BitVec.ofNat 32 d.val = (rdAs (S2x256.Idx → BitVec 32) (W (Proc.devRef .tc main_v24))) (ix2 b c)
  · rw [if_pos hc]; simp [h.2 hc]
  · rw [if_neg hc]; simp [mt h.1 hc]
theorem v45_at (b : Fin 2) (s : Fin 1024) (l : Fin 128) : (rdAs (S2x1024x128.Idx → EReal) (StableHlo.after hostOps0_13 (StableHlo.after hostOps0_12 (StableHlo.after opsB W)) (Proc.devRef .tc main_v45))) (ix3 b s l)
    = Ideal.div ((rdAs (S2x1024.Idx → EReal) (W (Proc.devRef .tc main_arg1))) (ix2 b s)) (Real.log 2 : ℝ) := by
  dsimp only [rdAs]
  after_reads_at
  rw [log_two]
theorem v41_at : (rdAs (S_.Idx → EReal) (StableHlo.after hostOps0_13 (StableHlo.after hostOps0_12 (StableHlo.after opsB W)) (Proc.devRef .tc main_v41))) ix0 = (Real.log 2 : ℝ) := by
  dsimp only [rdAs]
  after_reads_at
  rw [log_two]
theorem arg0_keep : (rdAs (S2x1024x8192.Idx → EReal) (StableHlo.after hostOps0_13 (StableHlo.after hostOps0_12 (StableHlo.after opsB W)) (Proc.devRef .tc main_arg0))) = W (Proc.devRef .tc main_arg0) := by
  dsimp only [rdAs]
  after_reads_simp
theorem arg1_keep : (rdAs (S2x1024.Idx → EReal) (StableHlo.after hostOps0_13 (StableHlo.after hostOps0_12 (StableHlo.after opsB W)) (Proc.devRef .tc main_arg1))) = W (Proc.devRef .tc main_arg1) := by
  dsimp only [rdAs]
  after_reads_simp
end Cert.KernelIdeal.Gen

end
-- ==== Proof.First.lean ====
/-
  The first of equal labels: the index the pairwise reduction over a column of an equality matrix keeps.
-/
module

public import proofs.«01_k».proof.Proof.Gen.KernelIdeal.Frame
public import Idealize.ShloMosaic.Lib.Pointwise

@[expose] public section

set_option maxRecDepth 16384

noncomputable section

namespace Cert.KernelIdeal.Gen

open Idealize.ShloMosaic Idealize.ShloMosaic.TcCoe Idealize.ShloMosaic.Tactic

/-- One step of the reduction: a set bit beats a clear one, and among equal bits the smaller index is kept. -/
theorem red_eq (a b : BitVec 1 × BitVec 32) : reducer_argmax_i1_i32 a b
    = if a.1 = 1#1 ∧ b.1 = 0#1 then a else if a.1 = b.1 then (b.1, if a.2.toInt < b.2.toInt then a.2 else b.2) else b := by
  obtain ⟨p, i⟩ := a
  obtain ⟨q, j⟩ := b
  have hb : ∀ p : BitVec 1, p = 0#1 ∨ p = 1#1 := by decide
  rcases hb p with rfl | rfl <;> rcases hb q with rfl | rfl <;> by_cases h : i.toInt < j.toInt <;>
    simp [reducer_argmax_i1_i32, IntOp.cmpi, IntOp.ori, IntOp.andi, Scalar.select, BitVec.slt_eq_decide, BitVec.ult, h]

/-- Folding the step over a list that holds a set bit ends at a set bit of the list whose index is least. -/
theorem fold_first (l : List (BitVec 1 × BitVec 32)) : ∀ acc : BitVec 1 × BitVec 32, (acc.1 = 1#1 ∨ ∃ p ∈ l, p.1 = 1#1) →
    (l.foldl reducer_argmax_i1_i32 acc).1 = 1#1
      ∧ ((acc.1 = 1#1 ∧ acc.2 = (l.foldl reducer_argmax_i1_i32 acc).2) ∨ ∃ p ∈ l, p.1 = 1#1 ∧ p.2 = (l.foldl reducer_argmax_i1_i32 acc).2)
      ∧ (acc.1 = 1#1 → (l.foldl reducer_argmax_i1_i32 acc).2.toInt ≤ acc.2.toInt)
      ∧ ∀ p ∈ l, p.1 = 1#1 → (l.foldl reducer_argmax_i1_i32 acc).2.toInt ≤ p.2.toInt := by
  have hb : ∀ p : BitVec 1, p = 0#1 ∨ p = 1#1 := by decide
  induction l with
  | nil => intro acc h; rcases h with h | ⟨p, hp, -⟩
           · exact ⟨h, Or.inl ⟨h, rfl⟩, fun _ => le_rfl, fun p hp => absurd hp (by simp)⟩
           · exact absurd hp (by simp)
  | cons q l ih =>
    intro acc h
    simp only [List.foldl_cons]
    have key : ∀ s, s = reducer_argmax_i1_i32 acc q →
        ((s.1 = 1#1 ↔ acc.1 = 1#1 ∨ q.1 = 1#1) ∧ (s.1 = 1#1 → (acc.1 = 1#1 ∧ acc.2 = s.2) ∨ (q.1 = 1#1 ∧ q.2 = s.2))
          ∧ (acc.1 = 1#1 → s.2.toInt ≤ acc.2.toInt) ∧ (q.1 = 1#1 → s.2.toInt ≤ q.2.toInt)) := by
      intro s hs
      rw [red_eq] at hs
      obtain ⟨p, i⟩ := acc
      obtain ⟨q, j⟩ := q
      subst hs
      rcases hb p with rfl | rfl <;> rcases hb q with rfl | rfl <;> by_cases h : i.toInt < j.toInt <;> simp [h] <;> omega
    generalize reducer_argmax_i1_i32 acc q = s at key ⊢
    obtain ⟨k1, k2, k3, k4⟩ := key s rfl
    have hs : s.1 = 1#1 ∨ ∃ p ∈ l, p.1 = 1#1 := by
      rcases h with h | ⟨p, hp, h⟩
      · exact Or.inl (k1.2 (Or.inl h))
      · rcases List.mem_cons.1 hp with rfl | hp
        · exact Or.inl (k1.2 (Or.inr h))
        · exact Or.inr ⟨p, hp, h⟩
    obtain ⟨h1, h2, h3, h4⟩ := ih s hs
    refine ⟨h1, ?_, fun h => (h3 (k1.2 (Or.inl h))).trans (k3 h), fun p hp h => ?_⟩
    · rcases h2 with ⟨ha, hb⟩ | ⟨p, hp, h⟩
      · rcases k2 ha with ⟨h, e⟩ | ⟨h, e⟩
        · exact Or.inl ⟨h, e.trans hb⟩
        · exact Or.inr ⟨q, List.mem_cons_self, h, e.trans hb⟩
      · exact Or.inr ⟨p, List.mem_cons_of_mem _ hp, h⟩
    · rcases List.mem_cons.1 hp with rfl | hp
      · exact (h3 (k1.2 (Or.inr ‹_›))).trans (k4 ‹_›)
      · exact h4 p hp h

theorem toInt_col (c : Fin 256) : (BitVec.ofNat 32 c.val).toInt = (c.val : ℤ) := by
  have := c.isLt
  rw [BitVec.toInt_eq_toNat_of_lt, BitVec.toNat_ofNat, Nat.mod_eq_of_lt (by omega)]
  rw [BitVec.toNat_ofNat, Nat.mod_eq_of_lt (by omega)]; omega

/-- Over a column of a bit matrix with a set bit, the reduction keeps the first row whose bit is set. -/
theorem first_at (X : S2x256x256.Idx → BitVec 1) (b : Fin 2) (k k₀ : Fin 256) (hk : X (ix3 b k₀ k) = 1#1) :
    ∃ j : Fin 256, (Host.reduce2 reducer_argmax_i1_i32 X (iotaInDim S2x256x256 32 1) (constantI S_ 1 0#1) (constantI S_ 32 0#32)
        reducesTo_S2x256x256_S2x256_d1 h_S_ (ix2 b k)).2 = BitVec.ofNat 32 j.val
      ∧ X (ix3 b j k) = 1#1 ∧ ∀ c : Fin 256, X (ix3 b c k) = 1#1 → j ≤ c := by
  have hmem : ∀ p, p ∈ Host.argReduceFiber X (iotaInDim S2x256x256 32 1) reducesTo_S2x256x256_S2x256_d1 (ix2 b k)
      ↔ ∃ c : Fin 256, p = (X (ix3 b c k), BitVec.ofNat 32 c.val) := by
    intro p
    simp only [Host.argReduceFiber, List.mem_map, List.mem_filter, List.mem_finRange, true_and, decide_eq_true_eq]
    constructor
    · rintro ⟨n, hn, rfl⟩
      obtain ⟨c, hc⟩ := (Shape.ReducesTo.fiber_r3_a1 reducesTo_S2x256x256_S2x256_d1 (ix2 b k) _).1 hn
      exact ⟨c, by rw [← hc]; rfl⟩
    · rintro ⟨c, rfl⟩
      refine ⟨S2x256x256.rowMajor (ix3 b c k), ?_, ?_⟩
      · rw [Equiv.symm_apply_apply]
        exact (Shape.ReducesTo.fiber_r3_a1 reducesTo_S2x256x256_S2x256_d1 (ix2 b k) _).2 ⟨c, rfl⟩
      · rw [Equiv.symm_apply_apply]; rfl
  rw [Host.reduce2_eq_foldl_fiber]
  have h := fold_first (Host.argReduceFiber X (iotaInDim S2x256x256 32 1) reducesTo_S2x256x256_S2x256_d1 (ix2 b k)) (0#1, 0#32)
    (Or.inr ⟨_, (hmem _).2 ⟨k₀, rfl⟩, hk⟩)
  obtain ⟨-, h2, -, h4⟩ := h
  rcases h2 with ⟨h, -⟩ | ⟨p, hp, h1, h2⟩
  · exact absurd h (by decide)
  · obtain ⟨j, rfl⟩ := (hmem _).1 hp
    refine ⟨j, h2.symm, h1, fun c hc => ?_⟩
    have := h4 _ ((hmem _).2 ⟨c, rfl⟩) hc
    rw [show (Host.argReduceFiber X (iotaInDim S2x256x256 32 1) reducesTo_S2x256x256_S2x256_d1 (ix2 b k)).foldl reducer_argmax_i1_i32 (0#1, 0#32) = _ from rfl] at this
    rw [← h2] at this
    simp only [toInt_col] at this
    exact Fin.le_def.2 (by omega)

end Cert.KernelIdeal.Gen

end
-- ==== Proof.Tile.lean ====
/-
  One column tile of the gradient body, read at an index over the extended reals.
-/
module

public import proofs.«01_k».proof.Proof.Gen.KernelIdeal.Skeleton
public import proofs.«01_k».proof.Proof.Row
public import Idealize.ShloMosaic.Lib.Pointwise
public import Idealize.ShloMosaic.Lib.Tactic

@[expose] public section

set_option maxRecDepth 16384

noncomputable section

namespace Cert.KernelIdeal.Gen

open Idealize.ShloMosaic Idealize.ShloMosaic.TcCoe Idealize.ShloMosaic.Tactic
open Cert.Row

/-- What the pad row subtracts is above every real. -/
theorem named_above : Named.named (F := Ideal) (φ := .f32) κ "above" 0x7149F2CA#32 = (⊤ : EReal) :=
  IdealRules.named_const.ideal_named_scalar κ "above" _ ⊤ rfl

/-- A column tile at an index. -/
theorem tile_at (v1 : EReal) (v19 : FVec Ideal S128x1 .f32) (v27 : IVec S128x1 1) (v131 : FVec Ideal S128x256 .fp8e5m2)
    (v142 : FVec Ideal S128x1 .f32) (oh : Vec Ideal S1x256x256 .fp8e4m3) (x : Vec Ideal S1x128x256 .fp8e4m3) (cm : Vec Ideal S1x1x256 .bf16)
    (r : Fin 128) (e : Fin 256) :
    k0_pay25 (F := Ideal) v1 v19 v27 v131 v142 oh x cm (ix3 0 r e) =
      if (cm (ix3 0 0 e) : EReal) < 0 then (0 : EReal) + ∑ c : Fin 256, (v131 (ix2 r c) : EReal) * oh (ix3 0 e c)
      else clip (Ideal.exp2 ((x (ix3 0 r e) : EReal) * v19 (ix2 r 0) - (if v27 (ix2 r 0) = 1#1 then v142 (ix2 r 0) else ⊤))
        * if v1 < 0 then cNegOne else cOne) := by
  unfold_payloads
  pointwise
  rw [named_above]
  unfold Scalar.select clip
  rfl

/-- The block of codes a live run stores, from what its body reads. -/
def tileOf (v1 : EReal) (v19 : FVec Ideal S128x1 .f32) (v27 : IVec S128x1 1) (v131 : FVec Ideal S128x256 .fp8e5m2)
    (v142 : FVec Ideal S128x1 .f32) (x : Vec Ideal S1x128x8192 .fp8e4m3) (oh : Vec Ideal S1x8192x256 .fp8e4m3)
    (cm : Vec Ideal S1x16x8192 .bf16) (r : Fin 128) (d : Fin 8192) : EReal :=
  if (cm (ix3 0 0 d) : EReal) < 0 then (0 : EReal) + ∑ c : Fin 256, (v131 (ix2 r c) : EReal) * oh (ix3 0 d c)
  else clip (Ideal.exp2 ((x (ix3 0 r d) : EReal) * v19 (ix2 r 0) - (if v27 (ix2 r 0) = 1#1 then v142 (ix2 r 0) else ⊤))
    * if v1 < 0 then cNegOne else cOne)

theorem inbOh {o : ℕ} (ho : o + 256 ≤ 8192) : ∀ a, (![0, o, 0] : Fin 3 → ℕ) a + S1x256x256.size a ≤ S1x8192x256.size a := by
  intro a; fin_cases a <;> simp <;> omega
theorem inbX {o : ℕ} (ho : o + 256 ≤ 8192) : ∀ a, (![0, 0, o] : Fin 3 → ℕ) a + S1x128x256.size a ≤ S1x128x8192.size a := by
  intro a; fin_cases a <;> simp <;> omega
theorem inbCm {o : ℕ} (ho : o + 256 ≤ 8192) : ∀ a, (![0, 0, o] : Fin 3 → ℕ) a + S1x1x256.size a ≤ S1x16x8192.size a := by
  intro a; fin_cases a <;> simp <;> omega

/-- Every column tile of it is the body's. -/
theorem tile_ok (o : ℕ) (ho : o + 256 ≤ 8192) (v1 : EReal) (v19 : FVec Ideal S128x1 .f32) (v27 : IVec S128x1 1)
    (v131 : FVec Ideal S128x256 .fp8e5m2) (v142 : FVec Ideal S128x1 .f32)
    (arg4 : Memref sig .tc .vmem S1x128x8192 .fp8e4m3) (harg4 : arg4.IsWhole)
    (arg11 : Memref sig .tc .vmem S1x8192x256 .fp8e4m3) (harg11 : arg11.IsWhole)
    (arg12 : Memref sig .tc .vmem S1x16x8192 .bf16) (harg12 : arg12.IsWhole)
    (x : Vec Ideal S1x128x8192 .fp8e4m3) (oh : Vec Ideal S1x8192x256 .fp8e4m3) (cm : Vec Ideal S1x16x8192 .bf16)
    (j : S1x128x256.Idx) :
    k0_pay25 (F := Ideal) v1 v19 v27 v131 v142
      (View.readAt (Elt Ideal) arg11.view (Rect.unit (s := S1x8192x256) ![0, o, 0] S1x256x256.size (inbOh ho)).toLoadRect (harg11.unread oh))
      (View.readAt (Elt Ideal) arg4.view (Rect.unit (s := S1x128x8192) ![0, 0, o] S1x128x256.size (inbX ho)).toLoadRect (harg4.unread x))
      (View.readAt (Elt Ideal) arg12.view (Rect.unit (s := S1x16x8192) ![0, 0, o] S1x1x256.size (inbCm ho)).toLoadRect (harg12.unread cm)) j
    = tileOf v1 v19 v27 v131 v142 x oh cm ((Rect.unit (s := S1x128x8192) ![0, 0, o] S1x128x256.size (inbX ho)).emb j 1)
        ((Rect.unit (s := S1x128x8192) ![0, 0, o] S1x128x256.size (inbX ho)).emb j 2) := by
  obtain ⟨r, e, rfl⟩ : ∃ (r : Fin 128) (e : Fin 256), j = ix3 (0 : Fin 1) r e :=
    ⟨j 1, j 2, (eq_ix3 j).trans (congrArg (fun z : Fin 1 => ix3 z (j 1 : Fin 128) (j 2 : Fin 256)) (Subsingleton.elim _ _))⟩
  rw [tile_at]
  simp only [View.readAt_eq_ld, Memref.IsWhole.read_unread]
  have e1 : (Rect.unit (s := S1x128x8192) ![0, 0, o] S1x128x256.size (inbX ho)).emb (ix3 0 r e) 1 = r := by
    refine Fin.ext ?_; show 0 + 1 * r.val = r.val; omega
  have e2 : (Rect.unit (s := S1x128x8192) ![0, 0, o] S1x128x256.size (inbX ho)).emb (ix3 0 r e) 2 = (⟨o + e.val, by omega⟩ : Fin 8192) := by
    refine Fin.ext ?_; show o + 1 * e.val = o + e.val; omega
  rw [e1, e2]
  unfold tileOf
  pointwise

end Cert.KernelIdeal.Gen

end
-- ==== Proof.Pieces.lean ====
/-
  The column tiles a live run of the gradient body stores, as one block.
-/
module

public import proofs.«01_k».proof.Proof.Grad
public import proofs.«01_k».proof.Proof.Tile
public import Idealize.ShloMosaic.Lib.Pipeline.ReadBack
public import Idealize.ShloMosaic.Lib.Pointwise
public import Idealize.ShloMosaic.Lib.Tactic

@[expose] public section

set_option maxRecDepth 16384

noncomputable section

namespace Cert.KernelIdeal.Gen

open Idealize.ShloMosaic Idealize.ShloMosaic.TcCoe Idealize.ShloMosaic.Tactic
open Cert.Row

/-- The pieces a live run stores are `tileOf`'s. -/
theorem live_pieces (c : Dev nD) (i : grid0.Coords) (arg2 : Memref sig .tc .smem S2 .i32) (harg2 : arg2.IsWhole) (arg3 : Memref sig .tc .smem S2 .f32) (harg3 : arg3.IsWhole) (arg4 : Memref sig .tc .vmem S1x128x8192 .fp8e4m3) (harg4 : arg4.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (arg11 : Memref sig .tc .vmem S1x8192x256 .fp8e4m3) (harg11 : arg11.IsWhole) (arg12 : Memref sig .tc .vmem S1x16x8192 .bf16) (harg12 : arg12.IsWhole) (arg13 : Memref sig .tc .vmem S1x128x8192 .fp8e5m2) (harg13 : arg13.IsWhole) (arg14 : Memref sig .tc .vmem S1x128x128 .f32) (harg14 : arg14.IsWhole)
    (x2 : Vec Ideal S2 .i32) (x3 : Vec Ideal S2 .f32) (x4 : Vec Ideal S1x128x8192 .fp8e4m3) (x5 : Vec Ideal S1x128x256 .f32) (x6 : Vec Ideal S1x128x128 .f32) (x7 : Vec Ideal S1x128x256 .f32) (x8 : Vec Ideal S128x128 .f32) (x9 : Vec Ideal S1x256x256 .bf16) (x10 : Vec Ideal S1x1x256 .f32) (x11 : Vec Ideal S1x8192x256 .fp8e4m3) (x12 : Vec Ideal S1x16x8192 .bf16) hl hd :
    View.PiecesOf (fun y : S1x128x8192.Idx => tileOf (gradLive.sl.r c i arg3 harg3 x3) (gradLive.sl.v19 c arg6 harg6 x6)
      (gradLive.sl.v27 c i arg2 harg2 x2)
      (gradLive.sl.r_6 c i arg2 harg2 arg3 harg3 arg5 harg5 arg6 harg6 arg7 harg7 arg8 harg8 arg9 harg9 arg10 harg10 x2 x3 x5 x6 x7 x8 x9 x10)
      (gradLive.sl.r_7 c i arg2 harg2 arg3 harg3 arg5 harg5 arg6 harg6 arg7 harg7 arg8 harg8 arg9 harg9 arg10 harg10 x2 x3 x5 x6 x7 x8 x9 x10)
      x4 x11 x12 (y 1) (y 2))
    (gradLive (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 x9 x10 x11 x12 hl hd).1 := by
  unfold gradLive
  dsimp only
  repeat' first
    | exact trivial
    | refine ⟨fun j => tile_ok _ (by decide) _ _ _ _ _ arg4 harg4 arg11 harg11 arg12 harg12 x4 x11 x12 j, ?_⟩

end Cert.KernelIdeal.Gen

end
-- ==== Proof.Rows.lean ====
/-
  The row computations of the gradient body, read at an index over the extended reals.
-/
module

public import proofs.«01_k».proof.Proof.Gen.KernelIdeal.Skeleton
public import proofs.«01_k».proof.Proof.Tile
public import Idealize.ShloMosaic.Lib.Pointwise
public import Idealize.ShloMosaic.Lib.Tactic

@[expose] public section

set_option maxRecDepth 16384

noncomputable section

namespace Cert.KernelIdeal.Gen

open Idealize.ShloMosaic Idealize.ShloMosaic.TcCoe Idealize.ShloMosaic.Tactic
open Cert.Row

/-- The base-two logarithm of e, as the rule names it. -/
theorem named_log2e : Named.named (F := Ideal) (φ := .f32) κ "log2e" 0x3FB8AA3B#32 = cLog2e :=
  IdealRules.named_const.ideal_named_scalar κ "log2e" _ cLog2e rfl

theorem col_word (c : Fin 256) : (IntOp.cmpi CmpIPredicate.eq (BitVec.ofNat 32 c.val) 63#32 = 1#1) ↔ c.val = 63 := by
  revert c; decide

theorem gam_at (a0 : BitVec 32) (v30 v31 : Vec Ideal S128x1 .f32) (v35 : Vec Ideal S1x128x256 .f32) (r : Fin 128) (c : Fin 256) :
    k0_pay9 (F := Ideal) a0 v30 v31 v35 (ix2 r c) =
      if c.val = 63 then (if a0 = 0#32 then v30 (ix2 r 0) else v31 (ix2 r 0)) else v35 (ix3 0 r c) := by
  pointwise [k0_pay9]
  unfold Scalar.select
  have h : (Scalar.cmpi CmpIPredicate.eq a0 0#32 = 1#1) ↔ a0 = 0#32 := by
    show BitVec.ofBool (a0 == 0#32) = 1#1 ↔ _
    by_cases h : a0 = 0#32
    · simp [h]
    · simp [h, show (a0 == 0#32) = false from beq_false_of_ne h]
  simp only [show (1 : BitVec 1) = 1#1 from rfl, col_word, h]

theorem p_at (v14 : Vec Ideal S1x128x128 .f32) (v43 : Vec Ideal S1x128x256 .f32) (r : Fin 128) (c : Fin 256) :
    k0_pay10 (F := Ideal) v14 v43 (ix2 r c) = kerP (v14 (ix3 0 r 1)) (fun c => v43 (ix3 0 r c)) c := by
  pointwise [k0_pay10, k0_pay4, kerP]
  unfold Scalar.select
  simp only [show (1 : BitVec 1) = 1#1 from rfl, col_word]
  rfl

theorem g_at (v1 : EReal) (v50 : FVec Ideal S128x256 .f32) (v51 v54 : FVec Ideal S128x256 .bf16) (v56 : FVec Ideal S128x256 .f32)
    (v58 : Vec Ideal S1x256x256 .bf16) (v65 : Vec Ideal S1x1x256 .f32) (r : Fin 128) (c : Fin 256) :
    k0_pay15 (F := Ideal) v1 v50 v51 v54 v56 v58 v65 (ix2 r c) =
      if (0 : EReal) < v65 (ix3 0 0 c) then v1 * (v50 (ix2 r c)
        - ((0 + ∑ c' : Fin 256, (v51 (ix2 r c') : EReal) * v58 (ix3 0 c' c)) + (0 + ∑ c' : Fin 256, (v54 (ix2 r c') : EReal) * v58 (ix3 0 c' c))
          + (0 + ∑ c' : Fin 256, (v56 (ix2 r c') : EReal) * v58 (ix3 0 c' c)))) else 0 := by
  pointwise [k0_pay15]

theorem v_at (v1 : EReal) (v18 : FVec Ideal S128x1 .f32) (v27 : IVec S128x1 1) (v50 : FVec Ideal S128x256 .f32) (v51 v54 : FVec Ideal S128x256 .bf16) (v56 : FVec Ideal S128x256 .f32)
    (v58 : Vec Ideal S1x256x256 .bf16) (v65 : Vec Ideal S1x1x256 .f32) (r : Fin 128) (l : Fin 128) :
    k0_pay16 (F := Ideal) v1 v18 v27 v50 v51 v54 v56 v58 v65 (ix2 r l) =
      (if v27 (ix2 r 0) = 1#1 then max ((Finset.univ : Finset (Fin 256)).fold max (⊥ : EReal) fun c => max (k0_pay15 v1 v50 v51 v54 v56 v58 v65 (ix2 r c) : EReal) (-k0_pay15 v1 v50 v51 v54 v56 v58 v65 (ix2 r c)))
        (max v1 (-v1) * Ideal.exp2 (v18 (ix2 r 0))) else 0) * cInv := by
  pointwise [k0_pay16]
  have hb : Ideal.ofBits FTy.f32 4286578688#32 = ⊥ := by simp [Ideal.ofBits, Ideal.ieee]
  unfold Scalar.select
  rw [hb, ite_mul, zero_mul]
  rfl

theorem e_at (v91 : IVec S128x128 1) (v97 : FVec Ideal S128x128 .f32) (c32 c33 : EReal) (r l : Fin 128) :
    k0_pay19 (F := Ideal) v91 v97 c32 c33 (ix2 r l) = if v91 (ix2 r l) = 1#1 then 0#32 else
      Ideal.fptosi 32 (min c33 (max c32 (v97 (ix2 r l)))) := by
  pointwise [k0_pay19]
  rfl

end Cert.KernelIdeal.Gen

end
-- ==== Proof.RunRow.lean ====
/-
  What a live run of the gradient body stores at a row, from the row of its loads.
-/
module

public import proofs.«01_k».proof.Proof.Gen.KernelIdeal.Skeleton
public import proofs.«01_k».proof.Proof.Rows
public import proofs.«01_k».proof.Proof.Grad
public import Idealize.ShloMosaic.Lib.Pointwise
public import Idealize.ShloMosaic.Lib.Tactic

@[expose] public section

set_option maxRecDepth 16384

noncomputable section

namespace Cert.KernelIdeal.Gen

open Idealize.ShloMosaic Idealize.ShloMosaic.TcCoe Idealize.ShloMosaic.Tactic
open Cert.Row

/-- Row `r` of the block is before the clip's end. -/
abbrev liveRow (i : grid0.Coords) (r : Fin 128) (n : BitVec 32) : Prop :=
  (BitVec.ofNat 32 r.val + BitVec.ofNat 32 (i 1).val * 128#32).slt n = true

/-- The posteriors of a row, the blank's in its column. -/
def gamRow (i : grid0.Coords) (x7 : Vec Ideal S1x128x256 .f32) (x8 : Vec Ideal S128x128 .f32) (r : Fin 128) (c : Fin 256) : EReal :=
  if c.val = 63 then (if BitVec.ofNat 32 (i 0).val = 0#32 then x8 (ix2 r 0) else x8 (ix2 r 32)) else x7 (ix3 0 r c)

/-- A word read at the batch row. -/
theorem word_at {e : EltTy} (i : grid0.Coords) (a : Memref sig .tc .smem S2 e) (ha : a.IsWhole) (x : Vec Ideal S2 e) (h) :
    View.readAt (Elt Ideal) a.view (Rect.unit (s := S2) (k0_off1 i) S1.size (k0_off1_inb i)).toLoadRect (ha.unread x) (Shape.Idx.first h)
      = x (ix1 (i 0)) := by
  rw [View.readAt_eq_ld, Memref.IsWhole.read_unread]
  refine congrArg x ?_
  rw [eq_ix1 (LoadRect.idx _ _)]
  refine congrArg ix1 (Fin.ext ?_)
  have h2 : (i 0).val < 2 := (i 0).isLt
  show (BitVec.ofNat 32 (i 0).val).toNat + 1 * 0 = (i 0).val
  rw [BitVec.toNat_ofNat]; omega

theorem word_dec (p : Prop) [Decidable p] : BitVec.ofBool (decide p) = 1#1 ↔ p := by
  by_cases h : p <;> simp [h]

theorem word_bool (b : Bool) : BitVec.ofBool b = 1#1 ↔ b = true := by
  cases b <;> decide

theorem shl_word (a : BitVec 32) : IntOp.shli ArithUnit.vector (IntOp.addi a 127#32) 23#32 = (a + 127#32) <<< 23 := rfl

theorem live_at (c : Dev nD) (i : grid0.Coords) (arg2 : Memref sig .tc .smem S2 .i32) (harg2 : arg2.IsWhole) (x2 : Vec Ideal S2 .i32) (r : Fin 128) :
    (gradLive.sl.v27 (F := Ideal) c i arg2 harg2 x2 (ix2 r 0) = 1#1) = liveRow i r (x2 (ix1 (i 0))) := by
  show (IntOp.cmpi .slt _ _ = 1#1) = _
  rw [show gradLive.sl.v26 (F := Ideal) c i arg2 harg2 x2 (ix2 r 0) = x2 (ix1 (i 0)) from word_at i arg2 harg2 x2 _]
  have h : gradLive.sl.v23 i (ix2 r 0) = BitVec.ofNat 32 r.val + BitVec.ofNat 32 (i 1).val * 128#32 := by
    show IntOp.addi (iota .tc S128x1 32 [0] iota_S128x1_d0_w32 (ix2 r 0)) _ = _
    pointwise
    rfl
  rw [h]
  exact propext (word_bool _)

theorem gam_run (c : Dev nD) (i : grid0.Coords) (arg7 : Memref sig .tc .vmem S1x128x256 .f32) (harg7 : arg7.IsWhole) (arg8 : Memref sig .tc .vmem S128x128 .f32) (harg8 : arg8.IsWhole) (x7 : Vec Ideal S1x128x256 .f32) (x8 : Vec Ideal S128x128 .f32) (r : Fin 128) (k : Fin 256) :
    gradLive.sl.v39 (F := Ideal) c i arg7 harg7 arg8 harg8 x7 x8 (ix2 r k) = gamRow i x7 x8 r k := by
  refine (gam_at (BitVec.ofNat 32 (i 0).val) _ _ _ r k).trans ?_
  unfold gamRow
  simp only [View.readAt_eq_ld, Memref.IsWhole.read_unread]
  pointwise

theorem p_run (c : Dev nD) (i : grid0.Coords) (arg5 : Memref sig .tc .vmem S1x128x256 .f32) (harg5 : arg5.IsWhole) (arg6 : Memref sig .tc .vmem S1x128x128 .f32) (harg6 : arg6.IsWhole) (x5 : Vec Ideal S1x128x256 .f32) (x6 : Vec Ideal S1x128x128 .f32) (r : Fin 128) (k : Fin 256) :
    gradLive.sl.v50 (F := Ideal) c arg5 harg5 arg6 harg6 x5 x6 (ix2 r k) = kerP (x6 (ix3 0 r 1)) (fun c => x5 (ix3 0 r c)) k := by
  refine (p_at _ _ r k).trans ?_
  simp only [View.readAt_eq_ld, Memref.IsWhole.read_unread]
  pointwise

theorem g_run (c : Dev nD) (i : grid0.Coords) (arg3 : Memref sig .tc .smem S2 .f32) (harg3 : arg3.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (x3 : Vec Ideal S2 .f32) (x5 : Vec Ideal S1x128x256 .f32) (x6 : Vec Ideal S1x128x128 .f32) (x7 : Vec Ideal S1x128x256 .f32) (x8 : Vec Ideal S128x128 .f32) (x9 : Vec Ideal S1x256x256 .bf16) (x10 : Vec Ideal S1x1x256 .f32) (r : Fin 128) (k : Fin 256) :
    gradLive.sl.r_3 (F := Ideal) c i arg3 harg3 arg5 harg5 arg6 harg6 arg7 harg7 arg8 harg8 arg9 harg9 arg10 harg10 x3 x5 x6 x7 x8 x9 x10 (ix2 r k)
      = kerG (x6 (ix3 0 r 1)) (fun c => x5 (ix3 0 r c)) (gamRow i x7 x8 r) (fun c' c => x9 (ix3 0 c' c)) (fun c => x10 (ix3 0 0 c)) (x3 (ix1 (i 0))) k := by
  refine (g_at _ _ _ _ _ _ _ r k).trans ?_
  rw [show gradLive.sl.r (F := Ideal) c i arg3 harg3 x3 = x3 (ix1 (i 0)) from word_at i arg3 harg3 x3 _]
  simp only [View.readAt_eq_ld, Memref.IsWhole.read_unread]
  have h51 : ∀ k, gradLive.sl.v51 (F := Ideal) c i arg7 harg7 arg8 harg8 x7 x8 (ix2 r k) = gamRow i x7 x8 r k := fun k =>
    gam_run c i arg7 harg7 arg8 harg8 x7 x8 r k
  have h53 : ∀ k, gradLive.sl.v53 (F := Ideal) c i arg7 harg7 arg8 harg8 x7 x8 (ix2 r k) = gamRow i x7 x8 r k - gamRow i x7 x8 r k := fun k =>
    congrArg₂ (fun a b : EReal => a - b) (gam_run c i arg7 harg7 arg8 harg8 x7 x8 r k) (gam_run c i arg7 harg7 arg8 harg8 x7 x8 r k)
  have h56 : ∀ k, gradLive.sl.v56 (F := Ideal) c i arg7 harg7 arg8 harg8 x7 x8 (ix2 r k)
      = gamRow i x7 x8 r k - gamRow i x7 x8 r k - (gamRow i x7 x8 r k - gamRow i x7 x8 r k) := fun k =>
    congrArg₂ (fun a b : EReal => a - b) (h53 k) (h53 k)
  simp only [h51, h56, p_run c i arg5 harg5 arg6 harg6 x5 x6]
  simp only [show ∀ k, gradLive.sl.v54 (F := Ideal) c i arg7 harg7 arg8 harg8 x7 x8 (ix2 r k) = gamRow i x7 x8 r k - gamRow i x7 x8 r k from h53]
  unfold kerG kerOcc
  pointwise

theorem v_run (c : Dev nD) (i : grid0.Coords) (arg2 : Memref sig .tc .smem S2 .i32) (harg2 : arg2.IsWhole) (arg3 : Memref sig .tc .smem S2 .f32) (harg3 : arg3.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (x2 : Vec Ideal S2 .i32) (x3 : Vec Ideal S2 .f32) (x5 : Vec Ideal S1x128x256 .f32) (x6 : Vec Ideal S1x128x128 .f32) (x7 : Vec Ideal S1x128x256 .f32) (x8 : Vec Ideal S128x128 .f32) (x9 : Vec Ideal S1x256x256 .bf16) (x10 : Vec Ideal S1x1x256 .f32) (r l : Fin 128) :
    k0_pay16 (F := Ideal) (gradLive.sl.r c i arg3 harg3 x3) (gradLive.sl.v18 c arg6 harg6 x6) (gradLive.sl.v27 c i arg2 harg2 x2)
    (gradLive.sl.v50 c arg5 harg5 arg6 harg6 x5 x6) (gradLive.sl.v51 c i arg7 harg7 arg8 harg8 x7 x8)
    (gradLive.sl.v54 c i arg7 harg7 arg8 harg8 x7 x8) (gradLive.sl.v56 c i arg7 harg7 arg8 harg8 x7 x8)
    (View.readAt (Elt Ideal) arg9.view (Rect.unit ![0, 0, 0] S1x256x256.size inb_S1x256x256_S1x256x256_0_0_0).toLoadRect
      (harg9.unread x9))
    (View.readAt (Elt Ideal) arg10.view (Rect.unit ![0, 0, 0] S1x1x256.size inb_S1x1x256_S1x1x256_0_0_0).toLoadRect
      (harg10.unread x10)) (ix2 r l) = kerA (x6 (ix3 0 r 1)) (x6 (ix3 0 r 2)) (fun c => x5 (ix3 0 r c)) (gamRow i x7 x8 r) (fun c' c => x9 (ix3 0 c' c)) (fun c => x10 (ix3 0 0 c)) (x3 (ix1 (i 0))) (liveRow i r (x2 (ix1 (i 0)))) * cInv := by
  rw [v_at]
  have hg : ∀ k, k0_pay15 (F := Ideal) (gradLive.sl.r c i arg3 harg3 x3) (gradLive.sl.v50 c arg5 harg5 arg6 harg6 x5 x6) (gradLive.sl.v51 c i arg7 harg7 arg8 harg8 x7 x8)
    (gradLive.sl.v54 c i arg7 harg7 arg8 harg8 x7 x8) (gradLive.sl.v56 c i arg7 harg7 arg8 harg8 x7 x8)
    (View.readAt (Elt Ideal) arg9.view (Rect.unit ![0, 0, 0] S1x256x256.size inb_S1x256x256_S1x256x256_0_0_0).toLoadRect
      (harg9.unread x9))
    (View.readAt (Elt Ideal) arg10.view (Rect.unit ![0, 0, 0] S1x1x256.size inb_S1x1x256_S1x1x256_0_0_0).toLoadRect
      (harg10.unread x10)) (ix2 r k) = kerG (x6 (ix3 0 r 1)) (fun c => x5 (ix3 0 r c)) (gamRow i x7 x8 r) (fun c' c => x9 (ix3 0 c' c)) (fun c => x10 (ix3 0 0 c)) (x3 (ix1 (i 0))) k :=
    fun k => g_run c i arg3 harg3 arg5 harg5 arg6 harg6 arg7 harg7 arg8 harg8 arg9 harg9 arg10 harg10 x3 x5 x6 x7 x8 x9 x10 r k
  simp only [hg]
  rw [show gradLive.sl.r (F := Ideal) c i arg3 harg3 x3 = x3 (ix1 (i 0)) from word_at i arg3 harg3 x3 _]
  have h18 : gradLive.sl.v18 (F := Ideal) c arg6 harg6 x6 (ix2 r 0) = x6 (ix3 0 r 2) := by
    show k0_pay6 (View.readAt (Elt Ideal) arg6.view (Rect.unit ![0, 0, 0] S1x128x128.size inb_S1x128x128_S1x128x128_0_0_0).toLoadRect (harg6.unread x6)) (ix2 r 0) = _
    rw [View.readAt_eq_ld, Memref.IsWhole.read_unread]
    pointwise [k0_pay6, k0_pay4]
  rw [h18]
  unfold kerA
  refine congrArg (fun a : EReal => a * cInv) (if_congr (iff_of_eq (live_at c i arg2 harg2 x2 r)) rfl rfl)

theorem e_run (c : Dev nD) (i : grid0.Coords) (arg2 : Memref sig .tc .smem S2 .i32) (harg2 : arg2.IsWhole) (arg3 : Memref sig .tc .smem S2 .f32) (harg3 : arg3.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (x2 : Vec Ideal S2 .i32) (x3 : Vec Ideal S2 .f32) (x5 : Vec Ideal S1x128x256 .f32) (x6 : Vec Ideal S1x128x128 .f32) (x7 : Vec Ideal S1x128x256 .f32) (x8 : Vec Ideal S128x128 .f32) (x9 : Vec Ideal S1x256x256 .bf16) (x10 : Vec Ideal S1x1x256 .f32) (r l : Fin 128) :
    k0_pay19 (F := Ideal) (gradLive.sl.r_4 c i arg2 harg2 arg3 harg3 arg5 harg5 arg6 harg6 arg7 harg7 arg8 harg8 arg9 harg9 arg10 harg10 x2 x3 x5 x6 x7 x8 x9 x10) (gradLive.sl.r_5 c i arg2 harg2 arg3 harg3 arg5 harg5 arg6 harg6 arg7 harg7 arg8 harg8 arg9 harg9 arg10 harg10 x2 x3 x5 x6 x7 x8 x9 x10) gradLive.sl.cst_32 gradLive.sl.cst_33 (ix2 r l)
      = kerExp (kerA (x6 (ix3 0 r 1)) (x6 (ix3 0 r 2)) (fun c => x5 (ix3 0 r c)) (gamRow i x7 x8 r) (fun c' c => x9 (ix3 0 c' c)) (fun c => x10 (ix3 0 0 c)) (x3 (ix1 (i 0))) (liveRow i r (x2 (ix1 (i 0))))) := by
  rw [e_at]
  have h := v_run c i arg2 harg2 arg3 harg3 arg5 harg5 arg6 harg6 arg7 harg7 arg8 harg8 arg9 harg9 arg10 harg10 x2 x3 x5 x6 x7 x8 x9 x10 r l
  unfold gradLive.sl.r_4 gradLive.sl.r_5 kerExp
  rw [← h]
  pointwise [k0_pay17, k0_pay18, named_log2e]
  refine if_congr ?_ rfl rfl
  exact word_dec _

theorem s_run (c : Dev nD) (i : grid0.Coords) (arg2 : Memref sig .tc .smem S2 .i32) (harg2 : arg2.IsWhole) (arg3 : Memref sig .tc .smem S2 .f32) (harg3 : arg3.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (x2 : Vec Ideal S2 .i32) (x3 : Vec Ideal S2 .f32) (x5 : Vec Ideal S1x128x256 .f32) (x6 : Vec Ideal S1x128x128 .f32) (x7 : Vec Ideal S1x128x256 .f32) (x8 : Vec Ideal S128x128 .f32) (x9 : Vec Ideal S1x256x256 .bf16) (x10 : Vec Ideal S1x1x256 .f32) (r l : Fin 128) :
    k0_pay20 (F := Ideal) (gradLive.sl.r_4 c i arg2 harg2 arg3 harg3 arg5 harg5 arg6 harg6 arg7 harg7 arg8 harg8 arg9 harg9 arg10 harg10 x2 x3 x5 x6 x7 x8 x9 x10) (gradLive.sl.r_5 c i arg2 harg2 arg3 harg3 arg5 harg5 arg6 harg6 arg7 harg7 arg8 harg8 arg9 harg9 arg10 harg10 x2 x3 x5 x6 x7 x8 x9 x10) gradLive.sl.cst_32 gradLive.sl.cst_33 (ix3 0 r l)
      = kerS (x6 (ix3 0 r 1)) (x6 (ix3 0 r 2)) (fun c => x5 (ix3 0 r c)) (gamRow i x7 x8 r) (fun c' c => x9 (ix3 0 c' c)) (fun c => x10 (ix3 0 0 c)) (x3 (ix1 (i 0))) (liveRow i r (x2 (ix1 (i 0)))) := by
  have h := e_run c i arg2 harg2 arg3 harg3 arg5 harg5 arg6 harg6 arg7 harg7 arg8 harg8 arg9 harg9 arg10 harg10 x2 x3 x5 x6 x7 x8 x9 x10 r l
  pointwise [k0_pay20]
  rw [h]
  exact congrArg (Ideal.ofBits .f32) (shl_word _)

theorem code_run (c : Dev nD) (i : grid0.Coords) (arg2 : Memref sig .tc .smem S2 .i32) (harg2 : arg2.IsWhole) (arg3 : Memref sig .tc .smem S2 .f32) (harg3 : arg3.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (x2 : Vec Ideal S2 .i32) (x3 : Vec Ideal S2 .f32) (x5 : Vec Ideal S1x128x256 .f32) (x6 : Vec Ideal S1x128x128 .f32) (x7 : Vec Ideal S1x128x256 .f32) (x8 : Vec Ideal S128x128 .f32) (x9 : Vec Ideal S1x256x256 .bf16) (x10 : Vec Ideal S1x1x256 .f32) (r : Fin 128) (k : Fin 256) :
    gradLive.sl.r_6 (F := Ideal) c i arg2 harg2 arg3 harg3 arg5 harg5 arg6 harg6 arg7 harg7 arg8 harg8 arg9 harg9 arg10 harg10 x2 x3 x5 x6 x7 x8 x9 x10 (ix2 r k) = kerCode (x6 (ix3 0 r 1)) (x6 (ix3 0 r 2)) (fun c => x5 (ix3 0 r c)) (gamRow i x7 x8 r) (fun c' c => x9 (ix3 0 c' c)) (fun c => x10 (ix3 0 0 c)) (x3 (ix1 (i 0))) (liveRow i r (x2 (ix1 (i 0)))) k := by
  have h := e_run c i arg2 harg2 arg3 harg3 arg5 harg5 arg6 harg6 arg7 harg7 arg8 harg8 arg9 harg9 arg10 harg10 x2 x3 x5 x6 x7 x8 x9 x10 r 0
  unfold gradLive.sl.r_6 kerCode
  pointwise [k0_pay21, g_run]
  rw [h]
  unfold Scalar.select
  refine if_congr (iff_of_eq (live_at c i arg2 harg2 x2 r)) ?_ rfl
  rw [shl_word]
  rfl

theorem off_run (c : Dev nD) (i : grid0.Coords) (arg2 : Memref sig .tc .smem S2 .i32) (harg2 : arg2.IsWhole) (arg3 : Memref sig .tc .smem S2 .f32) (harg3 : arg3.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (x2 : Vec Ideal S2 .i32) (x3 : Vec Ideal S2 .f32) (x5 : Vec Ideal S1x128x256 .f32) (x6 : Vec Ideal S1x128x128 .f32) (x7 : Vec Ideal S1x128x256 .f32) (x8 : Vec Ideal S128x128 .f32) (x9 : Vec Ideal S1x256x256 .bf16) (x10 : Vec Ideal S1x1x256 .f32) (r : Fin 128) :
    (if gradLive.sl.v27 (F := Ideal) c i arg2 harg2 x2 (ix2 r 0) = 1#1 then gradLive.sl.r_7 (F := Ideal) c i arg2 harg2 arg3 harg3 arg5 harg5 arg6 harg6 arg7 harg7 arg8 harg8 arg9 harg9 arg10 harg10 x2 x3 x5 x6 x7 x8 x9 x10 (ix2 r 0) else (⊤ : EReal)) = kerOff (x6 (ix3 0 r 0)) (x6 (ix3 0 r 1)) (x6 (ix3 0 r 2)) (fun c => x5 (ix3 0 r c)) (gamRow i x7 x8 r) (fun c' c => x9 (ix3 0 c' c)) (fun c => x10 (ix3 0 0 c)) (x3 (ix1 (i 0))) (liveRow i r (x2 (ix1 (i 0)))) := by
  have h := e_run c i arg2 harg2 arg3 harg3 arg5 harg5 arg6 harg6 arg7 harg7 arg8 harg8 arg9 harg9 arg10 harg10 x2 x3 x5 x6 x7 x8 x9 x10 r 0
  unfold gradLive.sl.r_7 kerOff
  pointwise [k0_pay22, named_log2e]
  rw [h]
  have h16 : gradLive.sl.v16 (F := Ideal) c arg6 harg6 x6 (ix2 r 0) = x6 (ix3 0 r 0) := by
    show k0_pay5 (View.readAt (Elt Ideal) arg6.view (Rect.unit ![0, 0, 0] S1x128x128.size inb_S1x128x128_S1x128x128_0_0_0).toLoadRect (harg6.unread x6)) (ix2 r 0) = _
    rw [View.readAt_eq_ld, Memref.IsWhole.read_unread]
    pointwise [k0_pay5, k0_pay4]
  rw [h16, show gradLive.sl.r (F := Ideal) c i arg3 harg3 x3 = x3 (ix1 (i 0)) from word_at i arg3 harg3 x3 _]
  exact if_congr (iff_of_eq (live_at c i arg2 harg2 x2 r)) rfl rfl

theorem tile_run (c : Dev nD) (i : grid0.Coords) (arg2 : Memref sig .tc .smem S2 .i32) (harg2 : arg2.IsWhole) (arg3 : Memref sig .tc .smem S2 .f32) (harg3 : arg3.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (x2 : Vec Ideal S2 .i32) (x3 : Vec Ideal S2 .f32) (x4 : Vec Ideal S1x128x8192 .fp8e4m3) (x5 : Vec Ideal S1x128x256 .f32) (x6 : Vec Ideal S1x128x128 .f32) (x7 : Vec Ideal S1x128x256 .f32) (x8 : Vec Ideal S128x128 .f32) (x9 : Vec Ideal S1x256x256 .bf16) (x10 : Vec Ideal S1x1x256 .f32) (x11 : Vec Ideal S1x8192x256 .fp8e4m3) (x12 : Vec Ideal S1x16x8192 .bf16) (r : Fin 128) (d : Fin 8192) :
    tileOf (gradLive.sl.r c i arg3 harg3 x3) (gradLive.sl.v19 c arg6 harg6 x6) (gradLive.sl.v27 c i arg2 harg2 x2)
      (gradLive.sl.r_6 c i arg2 harg2 arg3 harg3 arg5 harg5 arg6 harg6 arg7 harg7 arg8 harg8 arg9 harg9 arg10 harg10 x2 x3 x5 x6 x7 x8 x9 x10) (gradLive.sl.r_7 c i arg2 harg2 arg3 harg3 arg5 harg5 arg6 harg6 arg7 harg7 arg8 harg8 arg9 harg9 arg10 harg10 x2 x3 x5 x6 x7 x8 x9 x10) x4 x11 x12 r d
    = kerD (fun d => x4 (ix3 0 r d)) (x6 (ix3 0 r 0)) (x6 (ix3 0 r 1)) (x6 (ix3 0 r 2)) (x6 (ix3 0 r 3)) (fun c => x5 (ix3 0 r c)) (gamRow i x7 x8 r)
      (fun c' c => x9 (ix3 0 c' c)) (fun c => x10 (ix3 0 0 c)) (fun d c => x11 (ix3 0 d c)) (fun d => x12 (ix3 0 0 d)) (x3 (ix1 (i 0))) (liveRow i r (x2 (ix1 (i 0)))) d := by
  unfold tileOf kerD
  rw [off_run]
  simp only [code_run]
  have h19 : gradLive.sl.v19 (F := Ideal) c arg6 harg6 x6 (ix2 r 0) = x6 (ix3 0 r 3) := by
    show k0_pay7 (View.readAt (Elt Ideal) arg6.view (Rect.unit ![0, 0, 0] S1x128x128.size inb_S1x128x128_S1x128x128_0_0_0).toLoadRect (harg6.unread x6)) (ix2 r 0) = _
    rw [View.readAt_eq_ld, Memref.IsWhole.read_unread]
    pointwise [k0_pay7, k0_pay4]
  rw [h19, show gradLive.sl.r (F := Ideal) c i arg3 harg3 x3 = x3 (ix1 (i 0)) from word_at i arg3 harg3 x3 _]

end Cert.KernelIdeal.Gen

end
-- ==== Proof.Blocks.lean ====
/-
  The two arrays the gradient call leaves, row by row, over the arrays its windows stage.
-/
module

public import proofs.«01_k».proof.Proof.GradFrame
public import proofs.«01_k».proof.Proof.Pieces
public import proofs.«01_k».proof.Proof.RunRow
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Cert.Row

variable (m : (ℓ : Loc nD τ sig) → Buf (Elt Ideal) ℓ)

theorem at0 : ∀ t : Fin cfg0.N, win0_0.index t = ![0] := (by decide +kernel : ∀ t : Fin grid0.N, _)
theorem at1 : ∀ t : Fin cfg0.N, win0_1.index t = ![0] := (by decide +kernel : ∀ t : Fin grid0.N, _)
theorem at2 : ∀ t : Fin cfg0.N, win0_2.index t = ![(grid0.coords t 0).val, (grid0.coords t 1).val, 0] := (by decide +kernel : ∀ t : Fin grid0.N, _)
theorem at3 : ∀ t : Fin cfg0.N, win0_3.index t = ![(grid0.coords t 0).val, (grid0.coords t 1).val, 0] := (by decide +kernel : ∀ t : Fin grid0.N, _)
theorem at4 : ∀ t : Fin cfg0.N, win0_4.index t = ![(grid0.coords t 0).val, (grid0.coords t 1).val, 0] := (by decide +kernel : ∀ t : Fin grid0.N, _)
theorem at5 : ∀ t : Fin cfg0.N, win0_5.index t = ![(grid0.coords t 0).val, (grid0.coords t 1).val, 0] := (by decide +kernel : ∀ t : Fin grid0.N, _)
theorem at6 : ∀ t : Fin cfg0.N, win0_6.index t = ![(grid0.coords t 1).val, 0] := (by decide +kernel : ∀ t : Fin grid0.N, _)
theorem at7 : ∀ t : Fin cfg0.N, win0_7.index t = ![(grid0.coords t 0).val, 0, 0] := (by decide +kernel : ∀ t : Fin grid0.N, _)
theorem at8 : ∀ t : Fin cfg0.N, win0_8.index t = ![(grid0.coords t 0).val, 0, 0] := (by decide +kernel : ∀ t : Fin grid0.N, _)
theorem at9 : ∀ t : Fin cfg0.N, win0_9.index t = ![(grid0.coords t 0).val, 0, 0] := (by decide +kernel : ∀ t : Fin grid0.N, _)
theorem at10 : ∀ t : Fin cfg0.N, win0_10.index t = ![(grid0.coords t 0).val, 0, 0] := (by decide +kernel : ∀ t : Fin grid0.N, _)
theorem at11 : ∀ t : Fin cfg0.N, win0_11.index t = ![(grid0.coords t 0).val, (grid0.coords t 1).val, 0] := (by decide +kernel : ∀ t : Fin grid0.N, _)
theorem at12 : ∀ t : Fin cfg0.N, win0_12.index t = ![(grid0.coords t 0).val, (grid0.coords t 1).val, 0] := (by decide +kernel : ∀ t : Fin grid0.N, _)

/-- The clip of a point, and the frame of a row of its block. -/
def bOf (i : grid0.Coords) : Fin 2 := ⟨(i 0).val, (i 0).isLt⟩
def sOf (i : grid0.Coords) (r : Fin 128) : Fin 1024 := ⟨(i 1).val * 128 + r.val, by have h : (i 1).val < 8 := (i 1).isLt; have := r.isLt; omega⟩

/-- The staged arrays. -/
abbrev aLen (c : Dev nD) : Vec Ideal S2 .i32 := V m c main_arg4
abbrev aW (c : Dev nD) : Vec Ideal S2 .f32 := V m c main_arg5
abbrev aX (c : Dev nD) : Vec Ideal S2x1024x8192 .fp8e4m3 := V m c main_v0
abbrev aY (c : Dev nD) : Vec Ideal S2x1024x256 .f32 := V m c main_v85
abbrev aSt (c : Dev nD) : Vec Ideal S2x1024x128 .f32 := V m c main_v103
abbrev aGam (c : Dev nD) : Vec Ideal S2x1024x256 .f32 := V m c main_arg6
abbrev aGb (c : Dev nD) : Vec Ideal S1024x128 .f32 := V m c main_arg7
abbrev aEq (c : Dev nD) : Vec Ideal S2x256x256 .bf16 := V m c main_v40
abbrev aRep (c : Dev nD) : Vec Ideal S2x1x256 .f32 := V m c main_v39
abbrev aOh (c : Dev nD) : Vec Ideal S2x8192x256 .fp8e4m3 := V m c main_v51
abbrev aCm (c : Dev nD) : Vec Ideal S2x16x8192 .bf16 := V m c main_v105

variable (c : Dev nD) (t : Fin cfg0.N)

abbrev ib0 : Vec Ideal S2 .i32 := iblk m c 0 t
abbrev ib1 : Vec Ideal S2 .f32 := iblk m c 1 t
abbrev ib2 : Vec Ideal S1x128x8192 .fp8e4m3 := iblk m c 2 t
abbrev ib3 : Vec Ideal S1x128x256 .f32 := iblk m c 3 t
abbrev ib4 : Vec Ideal S1x128x128 .f32 := iblk m c 4 t
abbrev ib5 : Vec Ideal S1x128x256 .f32 := iblk m c 5 t
abbrev ib6 : Vec Ideal S128x128 .f32 := iblk m c 6 t
abbrev ib7 : Vec Ideal S1x256x256 .bf16 := iblk m c 7 t
abbrev ib8 : Vec Ideal S1x1x256 .f32 := iblk m c 8 t
abbrev ib9 : Vec Ideal S1x8192x256 .fp8e4m3 := iblk m c 9 t
abbrev ib10 : Vec Ideal S1x16x8192 .bf16 := iblk m c 10 t

theorem ib0_at (b : Fin 2) : ib0 m c t (ix1 b) = aLen m c (ix1 b) := by
  blk_simp [iblk]; refine congrArg (aLen m c) ?_; blk_ext [at0 t]
theorem ib1_at (b : Fin 2) : ib1 m c t (ix1 b) = aW m c (ix1 b) := by
  blk_simp [iblk]; refine congrArg (aW m c) ?_; blk_ext [at1 t]
theorem ib2_at (r : Fin 128) (d : Fin 8192) : ib2 m c t (ix3 0 r d) = aX m c (ix3 (bOf (grid0.coords t)) (sOf (grid0.coords t) r) d) := by
  blk_simp [iblk]; refine congrArg (aX m c) ?_; blk_ext [at2 t, bOf, sOf]
theorem ib3_at (r : Fin 128) (d : Fin 256) : ib3 m c t (ix3 0 r d) = aY m c (ix3 (bOf (grid0.coords t)) (sOf (grid0.coords t) r) d) := by
  blk_simp [iblk]; refine congrArg (aY m c) ?_; blk_ext [at3 t, bOf, sOf]
theorem ib4_at (r : Fin 128) (d : Fin 128) : ib4 m c t (ix3 0 r d) = aSt m c (ix3 (bOf (grid0.coords t)) (sOf (grid0.coords t) r) d) := by
  blk_simp [iblk]; refine congrArg (aSt m c) ?_; blk_ext [at4 t, bOf, sOf]
theorem ib5_at (r : Fin 128) (d : Fin 256) : ib5 m c t (ix3 0 r d) = aGam m c (ix3 (bOf (grid0.coords t)) (sOf (grid0.coords t) r) d) := by
  blk_simp [iblk]; refine congrArg (aGam m c) ?_; blk_ext [at5 t, bOf, sOf]
theorem ib6_at (r : Fin 128) (d : Fin 128) : ib6 m c t (ix2 r d) = aGb m c (ix2 (sOf (grid0.coords t) r) d) := by
  blk_simp [iblk]; refine congrArg (aGb m c) ?_; blk_ext [at6 t, bOf, sOf]
theorem ib7_at (r : Fin 256) (d : Fin 256) : ib7 m c t (ix3 0 r d) = aEq m c (ix3 (bOf (grid0.coords t)) r d) := by
  blk_simp [iblk]; refine congrArg (aEq m c) ?_; blk_ext [at7 t, bOf]
theorem ib8_at (d : Fin 256) : ib8 m c t (ix3 0 0 d) = aRep m c (ix3 (bOf (grid0.coords t)) 0 d) := by
  blk_simp [iblk]; refine congrArg (aRep m c) ?_; blk_ext [at8 t, bOf]
theorem ib9_at (r : Fin 8192) (d : Fin 256) : ib9 m c t (ix3 0 r d) = aOh m c (ix3 (bOf (grid0.coords t)) r d) := by
  blk_simp [iblk]; refine congrArg (aOh m c) ?_; blk_ext [at9 t, bOf]
theorem read10 (A : (b : Ref sig .tc) → Buf (Elt Ideal) ((c : Thread nD τ).loc b)) (d : Fin 8192) :
    ((((cfg0.win 10).blk t).view.read (Elt Ideal) (A (Pipeline.arrRef spec0 10)) : Vec Ideal S1x16x8192 .bf16) (ix3 0 0 d) : EReal)
      = (A main_v105 : Vec Ideal S2x16x8192 .bf16) (ix3 (bOf (grid0.coords t)) 0 d) := by
  refine congrArg (A main_v105) (a₁ := (win0_10.blk t).view.emb (ix3 0 0 d)) ?_
  blk_ext [at10 t, bOf]
theorem ib10_at (d : Fin 8192) : ib10 m c t (ix3 0 0 d) = aCm m c (ix3 (bOf (grid0.coords t)) 0 d) := read10 c t (V m c) d

/-- Frame `s` is before the clip's end; the block of frame `s` starts before it. -/
abbrev liveAt (n : BitVec 32) (s : Fin 1024) : Prop := (BitVec.ofNat 32 s.val).slt n = true
abbrev blockLive (n : BitVec 32) (s : Fin 1024) : Prop := (BitVec.ofNat 32 (s.val / 128 * 128)).slt n = true

/-- The posteriors of a frame, the blank's in its column. -/
def gamAt (g : Vec Ideal S2x1024x256 .f32) (gb : Vec Ideal S1024x128 .f32) (b : Fin 2) (s : Fin 1024) (k : Fin 256) : EReal :=
  if k.val = 63 then (if b.val = 0 then gb (ix2 s 0) else gb (ix2 s 32)) else g (ix3 b s k)

/-- The kernel's codes and scale of a frame, over the staged arrays. -/
def kCodes (b : Fin 2) (s : Fin 1024) (d : Fin 8192) : EReal :=
  kerD (fun d => aX m c (ix3 b s d)) (aSt m c (ix3 b s 0)) (aSt m c (ix3 b s 1)) (aSt m c (ix3 b s 2)) (aSt m c (ix3 b s 3))
    (fun k => aY m c (ix3 b s k)) (gamAt (aGam m c) (aGb m c) b s) (fun k' k => aEq m c (ix3 b k' k)) (fun k => aRep m c (ix3 b 0 k))
    (fun d k => aOh m c (ix3 b d k)) (fun d => aCm m c (ix3 b 0 d)) (aW m c (ix1 b)) (liveAt (aLen m c (ix1 b)) s) d
def kScale (b : Fin 2) (s : Fin 1024) : EReal :=
  kerS (aSt m c (ix3 b s 1)) (aSt m c (ix3 b s 2))
    (fun k => aY m c (ix3 b s k)) (gamAt (aGam m c) (aGb m c) b s) (fun k' k => aEq m c (ix3 b k' k)) (fun k => aRep m c (ix3 b 0 k))
    (aW m c (ix1 b)) (liveAt (aLen m c (ix1 b)) s)

/-- The arrays the call leaves. -/
def gCodes : Vec Ideal S2x1024x8192 .fp8e5m2 := fun y => if blockLive (aLen m c (ix1 (y 0 : Fin 2))) (y 1 : Fin 1024) then kCodes m c (y 0 : Fin 2) (y 1 : Fin 1024) (y 2 : Fin 8192) else 0
def gScale : Vec Ideal S2x1024x128 .f32 := fun y => if blockLive (aLen m c (ix1 (y 0 : Fin 2))) (y 1 : Fin 1024) then kScale m c (y 0 : Fin 2) (y 1 : Fin 1024) else 1

theorem row_word (i : grid0.Coords) (r : Fin 128) :
    BitVec.ofNat 32 r.val + BitVec.ofNat 32 (i 1).val * 128#32 = BitVec.ofNat 32 (sOf i r).val := by
  show _ = BitVec.ofNat 32 ((i 1).val * 128 + r.val)
  rw [BitVec.ofNat_add, BitVec.ofNat_mul, BitVec.add_comm]

theorem liveRow_iff (i : grid0.Coords) (r : Fin 128) (n : BitVec 32) : liveRow i r n = liveAt n (sOf i r) := by
  show (_ = true) = (_ = true)
  rw [row_word]

theorem gamRow_at (r : Fin 128) (k : Fin 256) :
    gamRow (grid0.coords t) (ib5 m c t) (ib6 m c t) r k = gamAt (aGam m c) (aGb m c) (bOf (grid0.coords t)) (sOf (grid0.coords t) r) k := by
  unfold gamRow gamAt
  rw [ib5_at, ib6_at, ib6_at]
  refine if_congr Iff.rfl (if_congr ?_ rfl rfl) rfl
  have h : (grid0.coords t 0).val < 2 := (grid0.coords t 0).isLt
  show BitVec.ofNat 32 (grid0.coords t 0).val = 0#32 ↔ (grid0.coords t 0).val = 0
  constructor
  · intro e
    have := congrArg BitVec.toNat e
    simp only [BitVec.toNat_ofNat] at this
    omega
  · intro e; rw [e]

theorem lenAt_eq : lenAt m c t = aLen m c (ix1 (bOf (grid0.coords t))) :=
  (word_at (grid0.coords t) (ms0_0 t) (hs0_0 t) (ib0 m c t) _).trans (ib0_at m c t (bOf (grid0.coords t)))

theorem liveWord_iff (r : Fin 128) :
    liveWord (grid0.coords t) (lenAt m c t) = 1#1 ↔ blockLive (aLen m c (ix1 (bOf (grid0.coords t)))) (sOf (grid0.coords t) r) := by
  rw [word_slt, lenAt_eq]
  have h : ((sOf (grid0.coords t) r).val / 128 * 128) = (grid0.coords t 1).val * 128 := by
    show ((grid0.coords t 1).val * 128 + r.val) / 128 * 128 = _
    have := r.isLt
    omega
  show _ ↔ (BitVec.ofNat 32 ((sOf (grid0.coords t) r).val / 128 * 128)).slt _ = true
  rw [h, BitVec.ofNat_mul]
  rfl

end Cert.KernelIdeal.Gen

end
-- ==== Proof.HostRows.lean ====
/-
  The staged arrays of the kernel's grid, element by element, over the argument arrays.
-/
module

public import proofs.«01_k».proof.Proof.Gen.KernelIdeal.Frame
public import Idealize.ShloMosaic.Lib.StableHlo.ReadAt
public import Idealize.ShloMosaic.Lib.Pointwise
public import proofs.«01_k».proof.Proof.Host
public import proofs.«01_k».proof.Proof.First
public import proofs.«01_k».proof.Proof.Blocks

@[expose] public section

set_option maxRecDepth 16384

noncomputable section

namespace Cert.KernelIdeal.Gen

open Idealize.ShloMosaic Idealize.ShloMosaic.TcCoe Idealize.ShloMosaic.Tactic

open Cert.Row

/-- The labels gathered at the slots' positions. -/
def gat (pos : S256.Idx → BitVec 32) (lens : S2.Idx → BitVec 32) (labels : S400.Idx → BitVec 32) : S2x256.Idx → BitVec 32 :=
  Host.gather gather_S400_S2x256x1_S2x256_n_0_n_n_0_2_1 labels
          (broadcastInDim S2x256x1 ![0, 1] bcast_S2x256_S2x256x1_0_1
            (select
              (cmpi CmpIPredicate.slt
                (minsi (broadcastInDim S2x256 ![] bcast_S_S2x256 (id (constantI S_ 32 399#32)))
                  (maxsi (broadcastInDim S2x256 ![] bcast_S_S2x256 (id (constantI S_ 32 0#32)))
                    (addi
                      (broadcastInDim S2x256 ![0, 1] bcast_S2x1_S2x256_0_1
                        (broadcastInDim S2x1 ![0] bcast_S2_S2x1_0
                          (subi
                            (Host.reduceWindow IntOp.addi ![2] ![1] ![1] ![0] lens
                              (broadcastInDim S_ ![] bcast_S_S_ (constantI S_ 32 0#32)) reduceWindows_S2_S2_w2s1p1_0
                              h_S_)
                            lens)))
                      (broadcastInDim S2x256 ![0, 1] bcast_S1x256_S2x256_0_1
                        (broadcastInDim S1x256 ![1] bcast_S256_S1x256_1 pos)))))
                (broadcastInDim S2x256 ![] bcast_S_S2x256 (constantI S_ 32 0#32)))
              (addi
                (minsi (broadcastInDim S2x256 ![] bcast_S_S2x256 (id (constantI S_ 32 399#32)))
                  (maxsi (broadcastInDim S2x256 ![] bcast_S_S2x256 (id (constantI S_ 32 0#32)))
                    (addi
                      (broadcastInDim S2x256 ![0, 1] bcast_S2x1_S2x256_0_1
                        (broadcastInDim S2x1 ![0] bcast_S2_S2x1_0
                          (subi
                            (Host.reduceWindow IntOp.addi ![2] ![1] ![1] ![0] lens
                              (broadcastInDim S_ ![] bcast_S_S_ (constantI S_ 32 0#32)) reduceWindows_S2_S2_w2s1p1_0
                              h_S_)
                            lens)))
                      (broadcastInDim S2x256 ![0, 1] bcast_S1x256_S2x256_0_1
                        (broadcastInDim S1x256 ![1] bcast_S256_S1x256_1 pos)))))
                (broadcastInDim S2x256 ![] bcast_S_S2x256 (constantI S_ 32 400#32)))
              (minsi (broadcastInDim S2x256 ![] bcast_S_S2x256 (id (constantI S_ 32 399#32)))
                (maxsi (broadcastInDim S2x256 ![] bcast_S_S2x256 (id (constantI S_ 32 0#32)))
                  (addi
                    (broadcastInDim S2x256 ![0, 1] bcast_S2x1_S2x256_0_1
                      (broadcastInDim S2x1 ![0] bcast_S2_S2x1_0
                        (subi
                          (Host.reduceWindow IntOp.addi ![2] ![1] ![1] ![0] lens
                            (broadcastInDim S_ ![] bcast_S_S_ (constantI S_ 32 0#32)) reduceWindows_S2_S2_w2s1p1_0 h_S_)
                          lens)))
                    (broadcastInDim S2x256 ![0, 1] bcast_S1x256_S2x256_0_1
                      (broadcastInDim S1x256 ![1] bcast_S256_S1x256_1 pos)))))))

/-- The labels of the slots: the blank's at the last one, none at the slots beyond the sequence. -/
def labOf (pos : S256.Idx → BitVec 32) (lens : S2.Idx → BitVec 32) (labels : S400.Idx → BitVec 32) : S2x256.Idx → BitVec 32 :=
  select
      (broadcastInDim S2x256 ![1] bcast_S256_S2x256_1
        (cmpi CmpIPredicate.eq pos
          (broadcastInDim S256 ![] bcast_S_S256 (constantI S_ 32 255#32))))
      (broadcastInDim S2x256 ![] bcast_S_S2x256 (id (constantI S_ 32 0#32)))
      (select
        (cmpi CmpIPredicate.slt
          (broadcastInDim S2x256 ![0, 1] bcast_S1x256_S2x256_0_1
            (broadcastInDim S1x256 ![1] bcast_S256_S1x256_1 pos))
          (broadcastInDim S2x256 ![0, 1] bcast_S2x1_S2x256_0_1
            (broadcastInDim S2x1 ![0] bcast_S2_S2x1_0 lens)))
        (gat pos lens labels)
        (broadcastInDim S2x256 ![] bcast_S_S2x256 (id (constantI S_ 32 4294967295#32))))

/-- The positions of the slots. -/
def slotPos : S256.Idx → BitVec 32 := fun i => lit0 (S256.rowMajor i)

theorem gat_mem (pos : S256.Idx → BitVec 32) (lens : S2.Idx → BitVec 32) (labels : S400.Idx → BitVec 32) (y : S2x256.Idx) :
    ∃ j, gat pos lens labels y = labels j := ⟨_, rfl⟩

theorem labOf_at (pos : S256.Idx → BitVec 32) (lens : S2.Idx → BitVec 32) (labels : S400.Idx → BitVec 32) (b : Fin 2) (k : Fin 256) :
    labOf pos lens labels (ix2 b k) = if pos (ix1 k) = 255#32 then 0#32
      else Scalar.select (IntOp.cmpi .slt (pos (ix1 k)) (lens (ix1 b))) (gat pos lens labels (ix2 b k)) 4294967295#32 := by
  rw [← sel_eq]
  generalize hg : gat pos lens labels = g
  unfold labOf
  rw [hg]
  pointwise
  rfl

theorem slotPos_blank : slotPos (ix1 63) = 255#32 := by
  unfold slotPos; decide +kernel

theorem slotPos_ne (k : Fin 256) (h : k.val ≠ 63) : slotPos (ix1 k) ≠ 255#32 := by
  revert k
  unfold slotPos
  decide +kernel

/-- The arrays after the host's first operations, which find the labels. -/
abbrev V1 (m : (ℓ : Loc nD τ sig) → Buf (Elt Ideal) ℓ) (c : Dev nD) : Valuation τ sig (Elt Ideal) := StableHlo.after opsA (fun b => m (c, b))

section
variable (W : Valuation τ sig (Elt Ideal))

theorem lab_eq : rdAs (S2x256.Idx → BitVec 32) (StableHlo.after opsA W (Proc.devRef .tc main_v24)) = labOf slotPos (W (Proc.devRef .tc main_arg3)) (W (Proc.devRef .tc main_arg2)) := by
  dsimp only [rdAs]
  after_reads_simp
  simp -implicitDefEqProofs only [StableHlo.TRef.toBuf, StableHlo.TRef.ofBuf, cast_cast, cast_eq]
  rfl
theorem valid_at (b : Fin 2) (k : Fin 256) : rdAs (S2x256.Idx → BitVec 1) (StableHlo.after opsA W (Proc.devRef .tc main_v7)) (ix2 b k) = IntOp.cmpi .slt (slotPos (ix1 k)) (rdAs (S2.Idx → BitVec 32) (W (Proc.devRef .tc main_arg3)) (ix1 b)) := by
  dsimp only [rdAs]
  after_reads_at
  rfl
theorem x_at : rdAs (S2x1024x8192.Idx → EReal) (StableHlo.after opsA W (Proc.devRef .tc main_v0)) = rdAs (S2x1024x8192.Idx → EReal) (W (Proc.devRef .tc main_arg0)) := by
  dsimp only [rdAs]
  after_reads_simp
  rfl
theorem headArg0 : rdAs (S2x1024x8192.Idx → EReal) (StableHlo.after opsA W (Proc.devRef .tc main_arg0)) = rdAs (S2x1024x8192.Idx → EReal) (W (Proc.devRef .tc main_arg0)) := by
  dsimp only [rdAs]
  after_reads_simp
theorem headArg1 : rdAs (S2x1024.Idx → EReal) (StableHlo.after opsA W (Proc.devRef .tc main_arg1)) = rdAs (S2x1024.Idx → EReal) (W (Proc.devRef .tc main_arg1)) := by
  dsimp only [rdAs]
  after_reads_simp

/-- The arrays after the remaining operations. -/
abbrev tl (W : Valuation τ sig (Elt Ideal)) : Valuation τ sig (Elt Ideal) :=
  StableHlo.after opsE (StableHlo.after opsD (StableHlo.after hostOps0_13 (StableHlo.after hostOps0_12 (StableHlo.after opsB W))))

abbrev xOf (W : Valuation τ sig (Elt Ideal)) : S2x1024x8192.Idx → EReal := rdAs _ (W (Proc.devRef .tc main_arg0))
abbrev scOf (W : Valuation τ sig (Elt Ideal)) : S2x1024.Idx → EReal := rdAs _ (W (Proc.devRef .tc main_arg1))
abbrev lOf (W : Valuation τ sig (Elt Ideal)) : S2x256.Idx → BitVec 32 := rdAs _ (W (Proc.devRef .tc main_v24))
abbrev vOf (W : Valuation τ sig (Elt Ideal)) : S2x256.Idx → BitVec 1 := rdAs _ (W (Proc.devRef .tc main_v7))

theorem tl_x : rdAs (S2x1024x8192.Idx → EReal) (tl W (Proc.devRef .tc main_v0)) = rdAs (S2x1024x8192.Idx → EReal) (W (Proc.devRef .tc main_v0)) := by
  dsimp only [rdAs]
  after_reads_simp
theorem tl_y (b : Fin 2) (s : Fin 1024) (k : Fin 256) (d : Fin 8192) (hv : vOf W (ix2 b k) = 1#1) (hd : Hit (fun k => lOf W (ix2 b k)) d k) :
    rdAs (S2x1024x256.Idx → EReal) (tl W (Proc.devRef .tc main_v85)) (ix3 b s k)
      = (xOf W (ix3 b s d) - xOf W (ix3 b s 0)) * Ideal.div (scOf W (ix2 b s)) (Real.log 2 : ℝ) := by
  dsimp only [rdAs, vOf, lOf, xOf, scOf, Hit] at *
  after_reads_at
  rw [log_two, hv]
  simp only [sel_eq]
  rw [Finset.sum_eq_single d]
  · rw [if_pos hd]; rfl
  · intro e _ he
    rw [if_neg]
    intro h
    have h2 := congrArg BitVec.toNat (h.trans hd.symm)
    have := e.isLt; have := d.isLt
    simp only [BitVec.toNat_ofNat] at h2
    exact he (Fin.ext (by omega))
  · intro h; exact absurd (Finset.mem_univ _) h
theorem bit_one (φ : FTy) : (FloatOps.uitofp (F := Ideal) φ 1#1 : EReal) = 1 := by
  simp [FloatOps.uitofp]
theorem bit_zero (φ : FTy) : (FloatOps.uitofp (F := Ideal) φ 0#1 : EReal) = 0 := by
  simp [FloatOps.uitofp]
theorem cmpi_eq {n : Nat} (a b : BitVec n) : IntOp.cmpi .eq a b = if a = b then 1#1 else 0#1 := by
  unfold IntOp.cmpi
  by_cases h : a = b
  · simp [h]
  · have : (a == b) = false := by simpa using h
    simp [h, this]
theorem tl_eq (b : Fin 2) (k' k : Fin 256) :
    rdAs (S2x256x256.Idx → EReal) (tl W (Proc.devRef .tc main_v40)) (ix3 b k' k) = if lOf W (ix2 b k') = lOf W (ix2 b k) then 1 else 0 := by
  dsimp only [rdAs, lOf]
  after_reads_at
  rw [cmpi_eq]
  split
  · exact bit_one _
  · exact bit_zero _
theorem tl_oh (b : Fin 2) (d : Fin 8192) (k : Fin 256) :
    rdAs (S2x8192x256.Idx → EReal) (tl W (Proc.devRef .tc main_v51)) (ix3 b d k) = if Hit (fun k => lOf W (ix2 b k)) d k then 1 else 0 := by
  dsimp only [rdAs, lOf, Hit]
  after_reads_at
  rw [sel_eq]
theorem tl_rep (b : Fin 2) (k : Fin 256) :
    rdAs (S2x1x256.Idx → EReal) (tl W (Proc.devRef .tc main_v39)) (ix3 b 0 k) = if 0 ≤ (lOf W (ix2 b k)).toInt ∧ ∀ k' < k, lOf W (ix2 b k') ≠ lOf W (ix2 b k) then 1 else 0 := by
  dsimp only [rdAs, lOf]
  after_reads_at
  generalize hX : cmpi CmpIPredicate.eq (broadcastInDim S2x256x256 _ _ _) _ = X
  have hXat : ∀ c k, X (ix3 b c k) = if (W (Proc.devRef .tc main_v24) : S2x256.Idx → BitVec 32) (ix2 b c) = (W (Proc.devRef .tc main_v24) : S2x256.Idx → BitVec 32) (ix2 b k) then 1#1 else 0#1 := by
    intro c k
    rw [← cmpi_eq, ← hX]
    pointwise
  obtain ⟨j, h1, h2, h3⟩ := first_at X b k k (by rw [hXat, if_pos rfl])
  rw [h1, cmpi_eq]
  have hj : BitVec.ofNat 32 j.val = BitVec.ofNat 32 k.val ↔ ∀ k' < k, (W (Proc.devRef .tc main_v24) : S2x256.Idx → BitVec 32) (ix2 b k') ≠ (W (Proc.devRef .tc main_v24) : S2x256.Idx → BitVec 32) (ix2 b k) := by
    constructor
    · intro h k' hk' e
      have h4 := congrArg BitVec.toNat h
      have := j.isLt; have := k.isLt
      simp only [BitVec.toNat_ofNat] at h4
      have := Fin.le_def.1 (h3 k' (by rw [hXat, if_pos e]))
      have := Fin.lt_def.1 hk'
      omega
    · intro h
      rcases lt_or_ge j k with hl | hl
      · rw [hXat] at h2
        split at h2
        · exact absurd ‹_› (h j hl)
        · exact absurd h2 (by decide)
      · have := h3 k (by rw [hXat, if_pos rfl])
        rw [le_antisymm this hl]
  have hs : IntOp.cmpi .sge ((W (Proc.devRef .tc main_v24) : S2x256.Idx → BitVec 32) (ix2 b k)) 0#32 = if 0 ≤ ((W (Proc.devRef .tc main_v24) : S2x256.Idx → BitVec 32) (ix2 b k)).toInt then 1#1 else 0#1 := by
    unfold IntOp.cmpi
    by_cases h : 0 ≤ ((W (Proc.devRef .tc main_v24) : S2x256.Idx → BitVec 32) (ix2 b k)).toInt
    · rw [if_pos h]; simp [BitVec.sle_eq_decide, h]
    · rw [if_neg h]; simp [BitVec.sle_eq_decide, h]
  rw [hs]
  by_cases ha : BitVec.ofNat 32 j.val = BitVec.ofNat 32 k.val <;> by_cases hb : 0 ≤ ((W (Proc.devRef .tc main_v24) : S2x256.Idx → BitVec 32) (ix2 b k)).toInt
  · rw [if_pos ha, if_pos hb, if_pos ⟨hb, hj.1 ha⟩]; exact bit_one _
  · rw [if_pos ha, if_neg hb, if_neg fun h => hb h.1]; exact bit_zero _
  · rw [if_neg ha, if_pos hb, if_neg fun h => ha (hj.2 h.2)]; exact bit_zero _
  · rw [if_neg ha, if_neg hb, if_neg fun h => hb h.1]; exact bit_zero _
end

end Cert.KernelIdeal.Gen

end
-- ==== Proof.BlockRows.lean ====
/-
  What a block holds after a run of the gradient body, row by row.
-/
module

public import proofs.«01_k».proof.Proof.Blocks
public import proofs.«01_k».proof.Proof.Pieces
public import proofs.«01_k».proof.Proof.RunRow
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Cert.Row

variable (m : (ℓ : Loc nD τ sig) → Buf (Elt Ideal) ℓ)

variable (c : Dev nD) (t : Fin cfg0.N)

/-- Stores that are blocks of one function leave it. -/
theorem canon_of_piecesOf {S : Shape} {e : EltTy} {G : S.Idx → Elt Ideal e} {L : List (View.Piece (Elt Ideal) S e)} (h : View.PiecesOf G L) (y : S.Idx)
    (hc : ∃ p ∈ L, y ∈ p.1.set) : View.canon L y = G y :=
  View.canon_apply_of_pieces G L h.mem y hc

/-- The canon of a live run's codes, at a row. -/
theorem canon_live (c : Dev nD) (i : grid0.Coords) (arg2 : Memref sig .tc .smem S2 .i32) (harg2 : arg2.IsWhole) (arg3 : Memref sig .tc .smem S2 .f32) (harg3 : arg3.IsWhole) (arg4 : Memref sig .tc .vmem S1x128x8192 .fp8e4m3) (harg4 : arg4.IsWhole) (arg5 : Memref sig .tc .vmem S1x128x256 .f32) (harg5 : arg5.IsWhole) (arg6 : Memref sig .tc .vmem S1x128x128 .f32) (harg6 : arg6.IsWhole) (arg7 : Memref sig .tc .vmem S1x128x256 .f32) (harg7 : arg7.IsWhole) (arg8 : Memref sig .tc .vmem S128x128 .f32) (harg8 : arg8.IsWhole) (arg9 : Memref sig .tc .vmem S1x256x256 .bf16) (harg9 : arg9.IsWhole) (arg10 : Memref sig .tc .vmem S1x1x256 .f32) (harg10 : arg10.IsWhole) (arg11 : Memref sig .tc .vmem S1x8192x256 .fp8e4m3) (harg11 : arg11.IsWhole) (arg12 : Memref sig .tc .vmem S1x16x8192 .bf16) (harg12 : arg12.IsWhole) (arg13 : Memref sig .tc .vmem S1x128x8192 .fp8e5m2) (harg13 : arg13.IsWhole) (arg14 : Memref sig .tc .vmem S1x128x128 .f32) (harg14 : arg14.IsWhole)
    (x2 : Vec Ideal S2 .i32) (x3 : Vec Ideal S2 .f32) (x4 : Vec Ideal S1x128x8192 .fp8e4m3) (x5 : Vec Ideal S1x128x256 .f32) (x6 : Vec Ideal S1x128x128 .f32) (x7 : Vec Ideal S1x128x256 .f32) (x8 : Vec Ideal S128x128 .f32) (x9 : Vec Ideal S1x256x256 .bf16) (x10 : Vec Ideal S1x1x256 .f32) (x11 : Vec Ideal S1x8192x256 .fp8e4m3) (x12 : Vec Ideal S1x16x8192 .bf16) hl hd
    (hc : ∀ y : S1x128x8192.Idx, ∃ p ∈ (gradLive (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 x9 x10 x11 x12 hl hd).1, y ∈ p.1.set) (r : Fin 128) (d : Fin 8192) :
    View.canon (gradLive (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 x9 x10 x11 x12 hl hd).1 (ix3 0 r d)
      = kerD (fun d => x4 (ix3 0 r d)) (x6 (ix3 0 r 0)) (x6 (ix3 0 r 1)) (x6 (ix3 0 r 2)) (x6 (ix3 0 r 3)) (fun c => x5 (ix3 0 r c)) (gamRow i x7 x8 r)
        (fun c' c => x9 (ix3 0 c' c)) (fun c => x10 (ix3 0 0 c)) (fun d c => x11 (ix3 0 d c)) (fun d => x12 (ix3 0 0 d)) (x3 (ix1 (i 0))) (liveRow i r (x2 (ix1 (i 0)))) d :=
  (canon_of_piecesOf (live_pieces c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 x9 x10 x11 x12 hl hd) (ix3 0 r d) (hc _)).trans
    (tile_run c i arg2 harg2 arg3 harg3 arg5 harg5 arg6 harg6 arg7 harg7 arg8 harg8 arg9 harg9 arg10 harg10 x2 x3 x4 x5 x6 x7 x8 x9 x10 x11 x12 r d)

/-- A live block's codes, -/
theorem codes_live (h : liveWord (grid0.coords t) (lenAt m c t) = 1#1) (r : Fin 128) (d : Fin 8192) :
    (outsAt0 m c t).1 (ix3 0 r d) = kCodes m c (bOf (grid0.coords t)) (sOf (grid0.coords t) r) d := by
  have e := canon_live c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ib0 m c t) (ib1 m c t) (ib2 m c t) (ib3 m c t) (ib4 m c t) (ib5 m c t) (ib6 m c t) (ib7 m c t) (ib8 m c t) (ib9 m c t) (ib10 m c t) h (fun hd => (deadWord_iff _ _).mp hd h) (fun y => cover_codes m c t _ _ y) r d
  refine Eq.trans ?_ (e.trans ?_)
  · unfold outsAt0
    rw [dif_pos h]
  clear e
  have hg : gamRow (grid0.coords t) (ib5 m c t) (ib6 m c t) r = gamAt (aGam m c) (aGb m c) (bOf (grid0.coords t)) (sOf (grid0.coords t) r) := funext fun k => gamRow_at m c t r k
  have h0 : ib0 m c t (ix1 (grid0.coords t 0)) = aLen m c (ix1 (bOf (grid0.coords t))) := ib0_at m c t (bOf (grid0.coords t))
  have h1 : ib1 m c t (ix1 (grid0.coords t 0)) = aW m c (ix1 (bOf (grid0.coords t))) := ib1_at m c t (bOf (grid0.coords t))
  simp only [hg, h0, h1, liveRow_iff, ib2_at, ib3_at, ib4_at, ib7_at, ib8_at, ib9_at, ib10_at]
  rfl

/-- and its scales. -/
theorem scale_live (h : liveWord (grid0.coords t) (lenAt m c t) = 1#1) (r l : Fin 128) :
    (outsAt0 m c t).2 (ix3 0 r l) = kScale m c (bOf (grid0.coords t)) (sOf (grid0.coords t) r) := by
  unfold outsAt0
  rw [dif_pos h]
  refine (congrFun (View.canon_unit_zero (S := S1x128x128) (off := ![0, 0, 0]) (by decide) _ _) _).trans ?_
  refine (s_run c (grid0.coords t) (ms0_0 t) (hs0_0 t) (ms0_1 t) (hs0_1 t) (ms0_3 t) (hs0_3 t) (ms0_4 t) (hs0_4 t) (ms0_5 t) (hs0_5 t) (ms0_6 t) (hs0_6 t) (ms0_7 t) (hs0_7 t) (ms0_8 t) (hs0_8 t) (ib0 m c t) (ib1 m c t) (ib3 m c t) (ib4 m c t) (ib5 m c t) (ib6 m c t) (ib7 m c t) (ib8 m c t) r l).trans ?_
  have hg : gamRow (grid0.coords t) (ib5 m c t) (ib6 m c t) r = gamAt (aGam m c) (aGb m c) (bOf (grid0.coords t)) (sOf (grid0.coords t) r) := funext fun k => gamRow_at m c t r k
  have h0 : ib0 m c t (ix1 (grid0.coords t 0)) = aLen m c (ix1 (bOf (grid0.coords t))) := ib0_at m c t (bOf (grid0.coords t))
  have h1 : ib1 m c t (ix1 (grid0.coords t 0)) = aW m c (ix1 (bOf (grid0.coords t))) := ib1_at m c t (bOf (grid0.coords t))
  simp only [hg, h0, h1, liveRow_iff, ib3_at, ib4_at, ib7_at, ib8_at]
  rfl

/-- A dead block is zeros and ones. -/
theorem codes_dead (h : ¬ liveWord (grid0.coords t) (lenAt m c t) = 1#1) (y : S1x128x8192.Idx) : (outsAt0 m c t).1 y = (0 : EReal) := by
  unfold outsAt0
  rw [dif_neg h]
  refine (congrFun (View.canon_unit_zero (S := S1x128x8192) (off := ![0, 0, 0]) (by decide) _ _) _).trans ?_
  pointwise [k0_pay2]
  exact Ideal.ofBits_zero .fp8e5m2
theorem scale_dead (h : ¬ liveWord (grid0.coords t) (lenAt m c t) = 1#1) (y : S1x128x128.Idx) : (outsAt0 m c t).2 y = (1 : EReal) := by
  unfold outsAt0
  rw [dif_neg h]
  refine (congrFun (View.canon_unit_zero (S := S1x128x128) (off := ![0, 0, 0]) (by decide) _ _) _).trans ?_
  pointwise [k0_pay3]

/-- The codes the call leaves, -/
theorem final_codes : (dats m 0 c).arrAt 11 cfg0.N = gCodes m c := by
  refine (dats m 0 c).arrAt_eq_of_covers 11 _ (by decide +kernel) fun t hf y => ?_
  blk_simp
  rw [after0_11]
  obtain ⟨r, d, rfl⟩ : ∃ (r : Fin 128) (d : Fin 8192), y = ix3 (0 : Fin 1) r d :=
    ⟨y 1, y 2, (eq_ix3 y).trans (congrArg (fun z : Fin 1 => ix3 z (y 1 : Fin 128) (y 2 : Fin 8192)) (Subsingleton.elim _ _))⟩
  have he : (win0_11.blk t).view.emb (ix3 0 r d) = ix3 (bOf (grid0.coords t)) (sOf (grid0.coords t) r) d := by blk_ext [at11 t, bOf, sOf]
  rw [he]
  by_cases h : liveWord (grid0.coords t) (lenAt m c t) = 1#1
  · exact (codes_live m c t h r d).trans (if_pos ((liveWord_iff m c t r).mp h)).symm
  · exact (codes_dead m c t h _).trans (if_neg (mt (liveWord_iff m c t r).mpr h)).symm

/-- and the scales. -/
theorem final_scale : (dats m 0 c).arrAt 12 cfg0.N = gScale m c := by
  refine (dats m 0 c).arrAt_eq_of_covers 12 _ (by decide +kernel) fun t hf y => ?_
  blk_simp
  rw [after0_12]
  obtain ⟨r, d, rfl⟩ : ∃ (r : Fin 128) (d : Fin 128), y = ix3 (0 : Fin 1) r d :=
    ⟨y 1, y 2, (eq_ix3 y).trans (congrArg (fun z : Fin 1 => ix3 z (y 1 : Fin 128) (y 2 : Fin 128)) (Subsingleton.elim _ _))⟩
  have he : (win0_12.blk t).view.emb (ix3 0 r d) = ix3 (bOf (grid0.coords t)) (sOf (grid0.coords t) r) d := by blk_ext [at12 t, bOf, sOf]
  rw [he]
  by_cases h : liveWord (grid0.coords t) (lenAt m c t) = 1#1
  · exact (scale_live m c t h r d).trans (if_pos ((liveWord_iff m c t r).mp h)).symm
  · exact (scale_dead m c t h _).trans (if_neg (mt (liveWord_iff m c t r).mpr h)).symm

end Cert.KernelIdeal.Gen

end
-- ==== Proof.KerRow.lean ====
/-
  What the kernel's grid leaves, row by row, is the reference's.
-/
module

public import proofs.«01_k».proof.Proof.HostRows
public import proofs.«01_k».proof.Proof.BlockRows

@[expose] public section

set_option maxRecDepth 16384

noncomputable section

namespace Cert.KernelIdeal.Gen

open Idealize.ShloMosaic Idealize.ShloMosaic.TcCoe Idealize.ShloMosaic.Tactic
open Cert.Row

section
variable (W : Valuation τ sig (Elt Ideal)) (b : Fin 2) (s : Fin 1024)

abbrev stOf (W : Valuation τ sig (Elt Ideal)) : S2x1024x128.Idx → EReal := rdAs _ (tl W (Proc.devRef .tc main_v103))
abbrev cmOf (W : Valuation τ sig (Elt Ideal)) : S2x16x8192.Idx → EReal := rdAs _ (tl W (Proc.devRef .tc main_v105))

theorem st_lse : stOf W (ix3 b s 0) = Ideal.div (rowMax (fun d => xOf W (ix3 b s d)) (scOf W (ix2 b s)) + Ideal.log (rowSum (fun d => xOf W (ix3 b s d)) (scOf W (ix2 b s)))) (Real.log 2 : ℝ) := by
  refine (v103_at _ 0 b s).trans ?_
  rw [if_pos (by decide)]
  refine (v71_at _ b s).trans ?_
  rw [arg0_keep, arg1_keep, v41_at]
theorem st_k : stOf W (ix3 b s 3) = Ideal.div (scOf W (ix2 b s)) (Real.log 2 : ℝ) := by
  refine (v103_at _ 3 b s).trans ?_
  rw [if_neg (by decide), if_neg (by decide), if_neg (by decide), v45_keep]
  exact v45_at W b s 3
theorem st_lpb : stOf W (ix3 b s 1) = xOf W (ix3 b s 0) * stOf W (ix3 b s 3) - stOf W (ix3 b s 0) := by
  refine (v103_at _ 1 b s).trans ?_
  rw [if_neg (by decide), if_pos (by decide), v45_keep, v78_at, arg0_keep]
  refine congrArg₂ (fun p q : EReal => xOf W (ix3 b s 0) * p - q) ((v45_at W b s 1).trans (st_k W b s).symm) ?_
  exact ((v103_at _ 0 b s).trans (if_pos (by decide))).symm
theorem cm_at (d : Fin 8192) : cmOf W (ix3 b 0 d) = if ∃ c : Fin 256, Hit (fun k => lOf W (ix2 b k)) d c then ⊥ else ⊤ :=
  (v105_at _ b d).trans ((v57_at _ b d).trans (v56_at W b d))
theorem st_u : stOf W (ix3 b s 2) = (Finset.univ : Finset (Fin 8192)).fold max ⊥ (fun d => min (xOf W (ix3 b s d)) (cmOf W (ix3 b 0 d))) * stOf W (ix3 b s 3) - stOf W (ix3 b s 0) := by
  refine (v103_at _ 2 b s).trans ?_
  rw [if_neg (by decide), if_neg (by decide), if_pos (by decide), v45_keep, v76_at, arg0_keep]
  refine congrArg₂ (fun p q : EReal => p - q) (congrArg₂ (fun p q : EReal => p * q) ?_ ((v45_at W b s 2).trans (st_k W b s).symm)) ?_
  · refine congrArg (fun f => (Finset.univ : Finset (Fin 8192)).fold max ⊥ f) (funext fun d => congrArg (min _) ?_)
    exact ((v105_at _ b d).trans (v57_at _ b d)).symm
  · exact ((v103_at _ 0 b s).trans (if_pos (by decide))).symm
end

variable (m : (ℓ : Loc nD τ sig) → Buf (Elt Ideal) ℓ) (c : Dev nD)

abbrev mX : S2x1024x8192.Idx → EReal := rdAs _ (m (c, Proc.devRef .tc main_arg0))
abbrev mS : S2x1024.Idx → EReal := rdAs _ (m (c, Proc.devRef .tc main_arg1))
abbrev mLabels : S400.Idx → BitVec 32 := rdAs _ (m (c, Proc.devRef .tc main_arg2))
abbrev mLens : S2.Idx → BitVec 32 := rdAs _ (m (c, Proc.devRef .tc main_arg3))

theorem V_tl (r : Ref sig .tc) : V m c r = tl (V1 m c) (Proc.devRef .tc r) := congrFun (tail_eq _) _

theorem lOf_eq : lOf (V1 m c) = labOf slotPos (mLens m c) (mLabels m c) := lab_eq (fun b => m (c, b))
theorem vOf_at (b : Fin 2) (k : Fin 256) : vOf (V1 m c) (ix2 b k) = IntOp.cmpi .slt (slotPos (ix1 k)) (mLens m c (ix1 b)) := valid_at (fun b => m (c, b)) b k
theorem xOf_eq : xOf (V1 m c) = mX m c := headArg0 (fun b => m (c, b))
theorem scOf_eq : scOf (V1 m c) = mS m c := headArg1 (fun b => m (c, b))

/-- The labels of a clip's slots. -/
abbrev labs (b : Fin 2) : Fin 256 → BitVec 32 := fun k => labOf slotPos (mLens m c) (mLabels m c) (ix2 b k)

theorem slot_lt (pos : S256.Idx → BitVec 32) (lens : S2.Idx → BitVec 32) (labels : S400.Idx → BitVec 32) (h : ∀ j, (labels j).toInt < 8192) (b : Fin 2) (k : Fin 256) :
    (labOf pos lens labels (ix2 b k)).toInt < 8192 := by
  rw [labOf_at]
  split
  · decide
  · unfold Scalar.select
    split
    · obtain ⟨j, hj⟩ := gat_mem pos lens labels (ix2 b k)
      rw [hj]; exact h j
    · decide
theorem slot_hit (lens : S2.Idx → BitVec 32) (labels : S400.Idx → BitVec 32) (b : Fin 2) (k : Fin 256) (hk : k.val ≠ 63) (d : Fin 8192)
    (h : BitVec.ofNat 32 d.val = labOf slotPos lens labels (ix2 b k)) : IntOp.cmpi .slt (slotPos (ix1 k)) (lens (ix1 b)) = 1#1 := by
  rw [labOf_at, if_neg (slotPos_ne k hk)] at h
  unfold Scalar.select at h
  split at h
  · assumption
  · have h2 := congrArg BitVec.toNat h
    have := d.isLt
    simp only [BitVec.toNat_ofNat] at h2
    omega
theorem slot_blank (lens : S2.Idx → BitVec 32) (labels : S400.Idx → BitVec 32) (b : Fin 2) : labOf slotPos lens labels (ix2 b 63) = 0#32 := by
  rw [labOf_at, if_pos slotPos_blank]

theorem ite_iff {α : Type} {p q : Prop} (i : Decidable p) (j : Decidable q) (h : p ↔ q) (a b : α) : @ite α p i a b = @ite α q j a b := by
  by_cases hp : p
  · rw [if_pos hp, if_pos (h.1 hp)]
  · rw [if_neg hp, if_neg fun hq => hp (h.2 hq)]

variable (b : Fin 2) (s : Fin 1024)

theorem given (xr : Fin 8192 → ℝ) (sr : ℝ) (γr : Fin 256 → ℝ) (hx : ∀ d, mX m c (ix3 b s d) = (xr d : EReal)) (hs : mS m c (ix2 b s) = (sr : EReal))
    (h0 : 0 ≤ sr) (hl : ∀ j, (mLabels m c j).toInt < 8192) :
    Given xr sr (labs m c b) γr (aSt m c (ix3 b s 0)) (aSt m c (ix3 b s 1)) (aSt m c (ix3 b s 2)) (aSt m c (ix3 b s 3)) (fun k => aY m c (ix3 b s k))
      (fun k' k => aEq m c (ix3 b k' k)) (fun k => aRep m c (ix3 b 0 k)) (fun d k => aOh m c (ix3 b d k)) (fun d => aCm m c (ix3 b 0 d)) := by
  have eSt : aSt m c = stOf (V1 m c) := V_tl m c main_v103
  have eCm : aCm m c = cmOf (V1 m c) := V_tl m c main_v105
  have ex : (fun d => xOf (V1 m c) (ix3 b s d)) = fun d => (xr d : EReal) := funext fun d => (congrFun (xOf_eq m c) _).trans (hx d)
  have es : scOf (V1 m c) (ix2 b s) = (sr : EReal) := (congrFun (scOf_eq m c) _).trans hs
  have eL : (fun k => lOf (V1 m c) (ix2 b k)) = labs m c b := funext fun k => congrFun (lOf_eq m c) _
  have ek : aSt m c (ix3 b s 3) = Ideal.div sr (Real.log 2 : ℝ) := (congrFun eSt _).trans ((st_k _ b s).trans (congrArg (fun p : EReal => Ideal.div p _) es))
  have else' : aSt m c (ix3 b s 0) = Ideal.div (rowMax (fun d => (xr d : EReal)) sr + Ideal.log (rowSum (fun d => (xr d : EReal)) sr)) (Real.log 2 : ℝ) :=
    (congrFun eSt _).trans ((st_lse _ b s).trans (by rw [ex, es]))
  refine ⟨h0, fun k => slot_lt _ _ _ hl b k, slot_blank _ _ b, ek, else', ?_, ?_, ?_, ?_, ?_, ?_, ?_⟩
  · refine (congrFun eSt _).trans ((st_lpb _ b s).trans ?_)
    rw [← eSt]
    exact congrArg (fun p : EReal => p * _ - _) (congrFun ex 0)
  · intro k d hk hd
    refine (congrFun (V_tl m c main_v85) _).trans ((tl_y (V1 m c) b s k d ?_ ?_).trans ?_)
    · rw [vOf_at]; exact slot_hit _ _ b k hk d hd
    · rw [eL]; exact hd
    · rw [ek, es]
      exact congrArg₂ (fun p q : EReal => (p - q) * _) (congrFun ex d) (congrFun ex 0)
  · refine (congrFun eSt _).trans ((st_u _ b s).trans ?_)
    rw [← eSt, ← eCm]
    exact congrArg (fun f : Fin 8192 → EReal => (Finset.univ : Finset (Fin 8192)).fold max ⊥ f * _ - _) (funext fun d => congrArg (fun p : EReal => min p _) (congrFun ex d))
  · intro k' k
    refine (congrFun (V_tl m c main_v40) _).trans ((tl_eq (V1 m c) b k' k).trans ?_)
    exact ite_iff _ _ (by rw [lOf_eq]) _ _
  · intro k
    refine (congrFun (V_tl m c main_v39) _).trans ((tl_rep (V1 m c) b k).trans ?_)
    exact ite_iff _ _ (by rw [lOf_eq]) _ _
  · intro d k
    refine (congrFun (V_tl m c main_v51) _).trans ((tl_oh (V1 m c) b d k).trans ?_)
    exact ite_iff _ _ (by rw [eL]) _ _
  · intro d
    refine (congrFun eCm _).trans ((cm_at (V1 m c) b d).trans ?_)
    exact ite_iff _ _ (by rw [eL]) _ _

end Cert.KernelIdeal.Gen

end
-- ==== Proof.RefHost.lean ====
/-
  The reference's staged arrays, over the argument arrays.
-/
module

public import proofs.«01_k».proof.Proof.Gen.ReferenceIdeal.Frame
public import proofs.«01_k».proof.Proof.KerRow
public import proofs.«01_k».proof.Proof.Blocks
public import Idealize.ShloMosaic.Lib.StableHlo.ReadAt
public import Idealize.ShloMosaic.Lib.Pointwise

@[expose] public section

set_option maxRecDepth 16384

noncomputable section

namespace Cert.ReferenceIdeal.Gen

open Idealize.ShloMosaic Idealize.ShloMosaic.TcCoe Idealize.ShloMosaic.Tactic
open Cert.Row
open Cert.KernelIdeal.Gen (rdAs labOf slotPos slotPos_blank slotPos_ne sel_eq gamAt)

abbrev hostAll : List (HloOp τ sig (Elt Ideal)) := List.flatten [hostOps0, hostOps0_1, hostOps0_2, hostOps0_3, hostOps0_4, hostOps0_5, hostOps0_6, hostOps0_7, hostOps0_8, hostOps0_9, hostOps0_10]

variable (W : Valuation τ sig (Elt Ideal))

theorem r_x : rdAs (S2x1024x8192.Idx → EReal) (StableHlo.after hostAll W (Proc.devRef .tc main_v0)) = rdAs (S2x1024x8192.Idx → EReal) (W (Proc.devRef .tc main_arg0)) := by
  dsimp only [rdAs]
  after_reads_simp
  rfl
theorem r_s (b : Fin 2) (s : Fin 1024) : rdAs (S2x1024x1.Idx → EReal) (StableHlo.after hostAll W (Proc.devRef .tc main_v36)) (ix3 b s 0) = rdAs (S2x1024.Idx → EReal) (W (Proc.devRef .tc main_arg1)) (ix2 b s) := by
  dsimp only [rdAs]
  after_reads_at
theorem lab_cast (u : IVec S2x256 32) (b : Fin 2) (k : Fin 256) : broadcastInDim S2x256x1 ![0, 1] bcast_S2x256_S2x256x1_0_1 u (ix3 b k 0) = u (ix2 b k) := by
  pointwise
theorem r_lab_eq : rdAs (IVec S2x256x1 32) (StableHlo.after hostAll W (Proc.devRef .tc main_v37))
    = broadcastInDim S2x256x1 ![0, 1] bcast_S2x256_S2x256x1_0_1 (labOf slotPos (W (Proc.devRef .tc main_arg3)) (W (Proc.devRef .tc main_arg2))) := by
  dsimp only [rdAs]
  after_reads_simp
  simp -implicitDefEqProofs only [StableHlo.TRef.toBuf, StableHlo.TRef.ofBuf, cast_cast, cast_eq]
  rfl
theorem r_lab (b : Fin 2) (k : Fin 256) : rdAs (S2x256x1.Idx → BitVec 32) (StableHlo.after hostAll W (Proc.devRef .tc main_v37)) (ix3 b k 0)
    = labOf slotPos (rdAs (S2.Idx → BitVec 32) (W (Proc.devRef .tc main_arg3))) (rdAs (S400.Idx → BitVec 32) (W (Proc.devRef .tc main_arg2))) (ix2 b k) :=
  (congrFun (r_lab_eq W) _).trans (lab_cast _ b k)
/-- The posteriors the host joins: the blank's from the blank's array, at its slot. -/
def gamArr (g : FVec Ideal S2x1024x256 .f32) (gb : FVec Ideal S1024x128 .f32) : FVec Ideal S2x1024x256 .f32 :=
  select (broadcastInDim S2x1024x256 ![2] bcast_S256_S2x1024x256_2 (cmpi .eq slotPos (broadcastInDim S256 ![] bcast_S_S256 (constantI S_ 32 255#32))))
    (broadcastInDim S2x1024x256 ![0, 1, 2] bcast_S2x1024x1_S2x1024x256_0_1_2 (broadcastInDim S2x1024x1 ![0, 1] bcast_S2x1024_S2x1024x1_0_1
      (concatenate S2x1024 0 [⟨S1x1024, broadcastInDim S1x1024 ![1] bcast_S1024_S1x1024_1 (shapeCast S1024 (extractStridedSlice S1024x1 ![0, 0] gb slices_S1024x128_S1024x1_0_0) shapeCasts_S1024x1_S1024)⟩,
        ⟨S1x1024, broadcastInDim S1x1024 ![1] bcast_S1024_S1x1024_1 (shapeCast S1024 (extractStridedSlice S1024x1 ![0, 32] gb slices_S1024x128_S1024x1_0_32) shapeCasts_S1024x1_S1024)⟩] concatenates_S1x1024_S1x1024_S2x1024_d0))) g
theorem r_gam_eq : rdAs (FVec Ideal S2x1024x256 .f32) (StableHlo.after hostAll W (Proc.devRef .tc main_v35))
    = gamArr (W (Proc.devRef .tc main_arg6)) (W (Proc.devRef .tc main_arg7)) := by
  dsimp only [rdAs]
  after_reads_simp
  simp -implicitDefEqProofs only [StableHlo.TRef.toBuf, StableHlo.TRef.ofBuf, cast_cast, cast_eq]
  rfl
theorem gamArr_at (g : FVec Ideal S2x1024x256 .f32) (gb : FVec Ideal S1024x128 .f32) (b : Fin 2) (s : Fin 1024) (k : Fin 256) :
    gamArr g gb (ix3 b s k) = gamAt g gb b s k := by
  have h63 : slotPos (ix1 k) = 255#32 ↔ k.val = 63 := by
    constructor
    · intro h; by_contra hk; exact slotPos_ne k hk h
    · intro h; have : k = 63 := Fin.ext h
      rw [this]; exact slotPos_blank
  generalize hp : slotPos = pos at h63
  unfold gamArr gamAt
  rw [hp]
  pointwise
  rw [sel_eq]
  have hb : b.val < 1 ↔ b.val = 0 := by omega
  by_cases hk : k.val = 63
  · rw [if_pos (h63.mpr hk), if_pos hk]
    by_cases h0 : b.val = 0
    · rw [dif_pos (hb.mpr h0), if_pos h0]
    · rw [dif_neg (fun h => h0 (hb.mp h)), if_neg h0]
  · rw [if_neg (fun h => hk (h63.mp h)), if_neg hk]
theorem r_gam (b : Fin 2) (s : Fin 1024) (k : Fin 256) : rdAs (S2x1024x256.Idx → EReal) (StableHlo.after hostAll W (Proc.devRef .tc main_v35)) (ix3 b s k)
    = gamAt (rdAs (S2x1024x256.Idx → EReal) (W (Proc.devRef .tc main_arg6))) (rdAs (S1024x128.Idx → EReal) (W (Proc.devRef .tc main_arg7))) b s k :=
  (congrFun (r_gam_eq W) _).trans (gamArr_at _ _ b s k)
end Cert.ReferenceIdeal.Gen

end
-- ==== Proof.RefRow.lean ====
/-
  The reference's body, read at an index over the extended reals.
-/
module

public import proofs.«01_k».proof.Proof.Gen.ReferenceIdeal.Skeleton
public import proofs.«01_k».proof.Proof.Row
public import Idealize.ShloMosaic.Lib.Pointwise
public import Idealize.ShloMosaic.Lib.Tactic

@[expose] public section

set_option maxRecDepth 16384

noncomputable section

namespace Cert.ReferenceIdeal.Gen

open Idealize.ShloMosaic Idealize.ShloMosaic.TcCoe Idealize.ShloMosaic.Tactic
open Cert.Row

theorem named_log2e : Named.named (F := Ideal) (φ := .f32) κ "log2e" 0x3FB8AA3B#32 = cLog2e :=
  IdealRules.named_const.ideal_named_scalar κ "log2e" _ _ rfl

theorem negInf : Ideal.ofBits .f32 0xFF800000#32 = ⊥ := by simp [Ideal.ofBits, Ideal.ieee]

theorem sel_eq {α : Type} {n : Nat} (a b : BitVec n) (p q : α) : Scalar.select (IntOp.cmpi .eq a b) p q = if a = b then p else q := by
  unfold Scalar.select IntOp.cmpi
  by_cases h : a = b
  · simp [h]
  · have : (a == b) = false := by simpa using h
    simp [h, this]

theorem sel_slt {α : Type} {n : Nat} (a b : BitVec n) (p q : α) : Scalar.select (IntOp.cmpi .slt a b) p q = if a.slt b = true then p else q := by
  unfold Scalar.select IntOp.cmpi
  by_cases h : a.slt b = true <;> simp [h]

/-- The gradient of a frame. -/
theorem grad_at (x : Vec Ideal S1x1024x8192 .fp8e4m3) (a : Vec Ideal S1x1024x1 .f32) (l : Vec Ideal S1x256x1 .i32) (γ : Vec Ideal S1x1024x256 .f32)
    (n : BitVec 32) (w : EReal) (s : Fin 1024) (d : Fin 8192) :
    k0_pay11 (F := Ideal) x a l γ n w (ix2 s d) = refG (fun d => x (ix3 0 s d)) (a (ix3 0 s 0)) (fun k => l (ix3 0 k 0)) (fun k => γ (ix3 0 s k)) w
      ((BitVec.ofNat 32 s.val).slt n = true) d := by
  unfold_payloads
  pointwise
  simp only [sel_slt, sel_eq, negInf]
  unfold refG refP refOcc rowSum rowMax
  simp only [zero_add, cOne_eq, EReal.coe_one, mul_ite, mul_one, mul_zero]

/-- The greatest magnitude of a frame. -/
theorem mag_read (h : FVec Ideal S1024x8192 .f32) (s : Fin 1024) :
    multiReduction (F := Ideal) .maximumf [1] S1024 h 0xFF800000#32 reduces_S1024x8192_S1024 (.inl rfl) rfl (ix1 s) = (Finset.univ : Finset (Fin 8192)).fold max ⊥ fun d => h (ix2 s d) := by
  pointwise
  rw [negInf]

/-- The exponent of a frame's scale, from its greatest magnitude. -/
def expOf (M : FVec Ideal S1024 .f32) (q : EReal) : FVec Ideal S1024x1 .f32 :=
  let v := mulf (F := Ideal) (φ := .f32) (shapeCast S1024x1 M shapeCasts_S1024_S1024x1) (broadcast S1024x1 (Scalar.ofBits (F := Ideal) .f32 0x37924925#32))
  select (cmpf (F := Ideal) (φ := .f32) .oeq v (broadcast S1024x1 (Scalar.ofBits (F := Ideal) .f32 0x00000000#32))) (broadcast S1024x1 (Scalar.ofBits (F := Ideal) .f32 0x00000000#32))
    (minimumf (F := Ideal) (φ := .f32) (broadcast S1024x1 (Scalar.ofBits (F := Ideal) .f32 0x42FC0000#32)) (maximumf (F := Ideal) (φ := .f32) (broadcast S1024x1 (Scalar.ofBits (F := Ideal) .f32 0xC2FA0000#32))
      (addf (F := Ideal) (φ := .f32) (floor (F := Ideal) (φ := .f32) (mulf (F := Ideal) (φ := .f32) (log (F := Ideal) (φ := .f32) v) (broadcast S1024x1 q))) (broadcast S1024x1 (Scalar.ofBits (F := Ideal) .f32 0x3F800000#32)))))
theorem expOf_at (M : FVec Ideal S1024 .f32) (s : Fin 1024) : expOf M cLog2e (ix2 s 0) = refExp (M (ix1 s)) := by
  pointwise [expOf]
  unfold refExp
  rw [cOne_eq, EReal.coe_one]
theorem pay_eq (h : FVec Ideal S1024x8192 .f32) : k0_pay1 (F := Ideal) h
    = expOf (multiReduction (F := Ideal) .maximumf [1] S1024 h 0xFF800000#32 reduces_S1024x8192_S1024 (.inl rfl) rfl) (Named.named (F := Ideal) (φ := .f32) κ "log2e" 0x3FB8AA3B#32) := rfl
theorem exp_at (h : FVec Ideal S1024x8192 .f32) (s : Fin 1024) :
    k0_pay1 (F := Ideal) h (ix2 s 0) = refExp ((Finset.univ : Finset (Fin 8192)).fold max ⊥ fun d => h (ix2 s d)) := by
  rw [pay_eq, named_log2e, expOf_at, mag_read]

theorem code_read (g : FVec Ideal S1024x8192 .f32) (E : FVec Ideal S1024x1 .f32) (s : Fin 1024) (d : Fin 8192) :
    shapeCast S1x1024x8192 (truncf (F := Ideal) .fp8e5m2 (minimumf (F := Ideal) (φ := .f32) (broadcast S1024x8192 (Scalar.ofBits (F := Ideal) .f32 0x47600000#32))
      (maximumf (F := Ideal) (φ := .f32) (broadcast S1024x8192 (Scalar.ofBits (F := Ideal) .f32 0xC7600000#32))
        (mulf (F := Ideal) (φ := .f32) g (broadcastTo S1024x8192 (exp2 (F := Ideal) (φ := .f32) (subf (F := Ideal) (φ := .f32) (broadcast S1024x1 (Scalar.ofBits (F := Ideal) .f32 0x00000000#32)) E)) broadcasts_S1024x1_S1024x8192)))) bitsLt_fp8e5m2_f32) shapeCasts_S1024x8192_S1x1024x8192 (ix3 0 s d)
      = clip (g (ix2 s d) * Ideal.exp2 (0 - E (ix2 s 0))) := by
  pointwise
  rfl
/-- Its code. -/
theorem code_at (g h : FVec Ideal S1024x8192 .f32) (s : Fin 1024) (d : Fin 8192) :
    k0_pay2 (F := Ideal) g h (ix3 0 s d) = clip (g (ix2 s d) * Ideal.exp2 (0 - k0_pay1 (F := Ideal) h (ix2 s 0))) :=
  code_read g (k0_pay1 (F := Ideal) h) s d

theorem scale_read (E : FVec Ideal S1024x1 .f32) (s : Fin 1024) (l : Fin 128) :
    shapeCast S1x1024x128 (broadcastTo S1024x128 (shapeCast S1024x1 (exp2 (F := Ideal) (φ := .f32) E) shapeCasts_S1024x1_S1024x1) broadcasts_S1024x1_S1024x128) shapeCasts_S1024x128_S1x1024x128 (ix3 0 s l) = Ideal.exp2 (E (ix2 s 0)) := by
  pointwise
  rfl
/-- Its scale. -/
theorem scale_at (h : FVec Ideal S1024x8192 .f32) (s : Fin 1024) (l : Fin 128) :
    k0_pay3 (F := Ideal) h (ix3 0 s l) = Ideal.exp2 (k0_pay1 (F := Ideal) h (ix2 s 0)) :=
  scale_read (k0_pay1 (F := Ideal) h) s l

section
variable (x : Vec Ideal S1x1024x8192 .fp8e4m3) (a : Vec Ideal S1x1024x1 .f32) (l : Vec Ideal S1x256x1 .i32) (γ : Vec Ideal S1x1024x256 .f32)
    (n : BitVec 32) (w : EReal) (s : Fin 1024)

theorem mag_at (d : Fin 8192) : k0_pay12 (F := Ideal) x a l γ n w (ix2 s d) = max (k0_pay11 (F := Ideal) x a l γ n w (ix2 s d) : EReal) (-k0_pay11 (F := Ideal) x a l γ n w (ix2 s d)) := rfl
theorem max_at : ((Finset.univ : Finset (Fin 8192)).fold max ⊥ fun d => (k0_pay12 (F := Ideal) x a l γ n w (ix2 s d) : EReal))
    = refA (fun d => x (ix3 0 s d)) (a (ix3 0 s 0)) (fun k => l (ix3 0 k 0)) (fun k => γ (ix3 0 s k)) w ((BitVec.ofNat 32 s.val).slt n = true) := by
  unfold refA
  refine congrArg (fun f : Fin 8192 → EReal => (Finset.univ : Finset (Fin 8192)).fold max ⊥ f) (funext fun d => ?_)
  rw [mag_at, grad_at]
theorem body_code (d : Fin 8192) : k0_pay2 (F := Ideal) (k0_pay11 x a l γ n w) (k0_pay12 x a l γ n w) (ix3 0 s d)
    = refD (fun d => x (ix3 0 s d)) (a (ix3 0 s 0)) (fun k => l (ix3 0 k 0)) (fun k => γ (ix3 0 s k)) w ((BitVec.ofNat 32 s.val).slt n = true) d := by
  rw [code_at, exp_at, max_at, grad_at]
  rfl
theorem body_scale (e : Fin 128) : k0_pay3 (F := Ideal) (k0_pay12 x a l γ n w) (ix3 0 s e)
    = refS (fun d => x (ix3 0 s d)) (a (ix3 0 s 0)) (fun k => l (ix3 0 k 0)) (fun k => γ (ix3 0 s k)) w ((BitVec.ofNat 32 s.val).slt n = true) := by
  rw [scale_at, exp_at, max_at]
  rfl
end

end Cert.ReferenceIdeal.Gen

end
-- ==== Proof.RefOut.lean ====
/-
  The two arrays the reference leaves, row by row.
-/
module

public import proofs.«01_k».proof.Proof.RefHost
public import proofs.«01_k».proof.Proof.RefRow
public import proofs.«01_k».proof.Proof.Gen.ReferenceIdeal.Value
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Cert.Row

/-- A frame's codes and scale, over the arrays the body reads. -/
def rowCode (x0 : Vec Ideal S2x1024x8192 .fp8e4m3) (x1 : Vec Ideal S2x1024x1 .f32) (x2 : Vec Ideal S2x256x1 .i32) (x3 : Vec Ideal S2x1024x256 .f32) (x4 : Vec Ideal S2 .i32) (x5 : Vec Ideal S2 .f32)
    (b : Fin 2) (s : Fin 1024) (d : Fin 8192) : EReal :=
  refD (fun d => x0 (ix3 b s d)) (x1 (ix3 b s 0)) (fun k => x2 (ix3 b k 0)) (fun k => x3 (ix3 b s k)) (x5 (ix1 b)) ((BitVec.ofNat 32 s.val).slt (x4 (ix1 b)) = true) d
def rowScale (x0 : Vec Ideal S2x1024x8192 .fp8e4m3) (x1 : Vec Ideal S2x1024x1 .f32) (x2 : Vec Ideal S2x256x1 .i32) (x3 : Vec Ideal S2x1024x256 .f32) (x4 : Vec Ideal S2 .i32) (x5 : Vec Ideal S2 .f32)
    (b : Fin 2) (s : Fin 1024) : EReal :=
  refS (fun d => x0 (ix3 b s d)) (x1 (ix3 b s 0)) (fun k => x2 (ix3 b k 0)) (fun k => x3 (ix3 b s k)) (x5 (ix1 b)) ((BitVec.ofNat 32 s.val).slt (x4 (ix1 b)) = true)

theorem congrArg₃ {α β γ δ : Sort*} (f : α → β → γ → δ) {a a' : α} {b b' : β} {c c' : γ} (h : a = a') (h' : b = b') (h'' : c = c') : f a b c = f a' b' c' := by
  subst h h' h''; rfl
/-- A load of one clip's part of an array. -/
theorem ld0 (b : ℕ) (hb : b < 2) (inb) (a : Memref sig .tc .vmem S2x1024x8192 .fp8e4m3) (ha : a.IsWhole) (x : Vec Ideal S2x1024x8192 .fp8e4m3) (s : Fin 1024) (d : Fin 8192) :
    View.readAt (Elt Ideal) a.view (Rect.unit (s := S2x1024x8192) ![b, 0, 0] S1x1024x8192.size inb).toLoadRect (ha.unread x) (ix3 (0 : Fin 1) s d) = x (ix3 (⟨b, hb⟩ : Fin 2) s d) := by
  rw [View.readAt_eq_ld, Memref.IsWhole.read_unread]
  refine congrArg x ?_
  rw [eq_ix3 (LoadRect.idx _ _)]
  have h0 : b + 1 * 0 = b := by omega
  have h1 : 0 + 1 * s.val = s.val := by omega
  have h2 : 0 + 1 * d.val = d.val := by omega
  exact congrArg₃ ix3 (Fin.ext h0) (Fin.ext h1) (Fin.ext h2)
theorem ld1 (b : ℕ) (hb : b < 2) (inb) (a : Memref sig .tc .vmem S2x1024x1 .f32) (ha : a.IsWhole) (x : Vec Ideal S2x1024x1 .f32) (s : Fin 1024) (d : Fin 1) :
    View.readAt (Elt Ideal) a.view (Rect.unit (s := S2x1024x1) ![b, 0, 0] S1x1024x1.size inb).toLoadRect (ha.unread x) (ix3 (0 : Fin 1) s d) = x (ix3 (⟨b, hb⟩ : Fin 2) s d) := by
  rw [View.readAt_eq_ld, Memref.IsWhole.read_unread]
  refine congrArg x ?_
  rw [eq_ix3 (LoadRect.idx _ _)]
  have h0 : b + 1 * 0 = b := by omega
  have h1 : 0 + 1 * s.val = s.val := by omega
  have h2 : 0 + 1 * d.val = d.val := by omega
  exact congrArg₃ ix3 (Fin.ext h0) (Fin.ext h1) (Fin.ext h2)
theorem ld2 (b : ℕ) (hb : b < 2) (inb) (a : Memref sig .tc .vmem S2x256x1 .i32) (ha : a.IsWhole) (x : Vec Ideal S2x256x1 .i32) (s : Fin 256) (d : Fin 1) :
    View.readAt (Elt Ideal) a.view (Rect.unit (s := S2x256x1) ![b, 0, 0] S1x256x1.size inb).toLoadRect (ha.unread x) (ix3 (0 : Fin 1) s d) = x (ix3 (⟨b, hb⟩ : Fin 2) s d) := by
  rw [View.readAt_eq_ld, Memref.IsWhole.read_unread]
  refine congrArg x ?_
  rw [eq_ix3 (LoadRect.idx _ _)]
  have h0 : b + 1 * 0 = b := by omega
  have h1 : 0 + 1 * s.val = s.val := by omega
  have h2 : 0 + 1 * d.val = d.val := by omega
  exact congrArg₃ ix3 (Fin.ext h0) (Fin.ext h1) (Fin.ext h2)
theorem ld3 (b : ℕ) (hb : b < 2) (inb) (a : Memref sig .tc .vmem S2x1024x256 .f32) (ha : a.IsWhole) (x : Vec Ideal S2x1024x256 .f32) (s : Fin 1024) (d : Fin 256) :
    View.readAt (Elt Ideal) a.view (Rect.unit (s := S2x1024x256) ![b, 0, 0] S1x1024x256.size inb).toLoadRect (ha.unread x) (ix3 (0 : Fin 1) s d) = x (ix3 (⟨b, hb⟩ : Fin 2) s d) := by
  rw [View.readAt_eq_ld, Memref.IsWhole.read_unread]
  refine congrArg x ?_
  rw [eq_ix3 (LoadRect.idx _ _)]
  have h0 : b + 1 * 0 = b := by omega
  have h1 : 0 + 1 * s.val = s.val := by omega
  have h2 : 0 + 1 * d.val = d.val := by omega
  exact congrArg₃ ix3 (Fin.ext h0) (Fin.ext h1) (Fin.ext h2)
/-- A word of a clip. -/
theorem wd4 (b : ℕ) (hb : b < 2) (inb) (a : Memref sig .tc .smem S2 .i32) (ha : a.IsWhole) (x : Vec Ideal S2 .i32) (h) :
    View.readAt (Elt Ideal) a.view (Rect.unit (s := S2) ![b] S1.size inb).toLoadRect (ha.unread x) (Shape.Idx.first h) = x (ix1 (⟨b, hb⟩ : Fin 2)) := by
  rw [View.readAt_eq_ld, Memref.IsWhole.read_unread]
  refine congrArg x ?_
  rw [eq_ix1 (LoadRect.idx _ _)]
  have h0 : b + 1 * 0 = b := by omega
  exact congrArg ix1 (Fin.ext h0)
theorem wd5 (b : ℕ) (hb : b < 2) (inb) (a : Memref sig .tc .smem S2 .f32) (ha : a.IsWhole) (x : Vec Ideal S2 .f32) (h) :
    View.readAt (Elt Ideal) a.view (Rect.unit (s := S2) ![b] S1.size inb).toLoadRect (ha.unread x) (Shape.Idx.first h) = x (ix1 (⟨b, hb⟩ : Fin 2)) := by
  rw [View.readAt_eq_ld, Memref.IsWhole.read_unread]
  refine congrArg x ?_
  rw [eq_ix1 (LoadRect.idx _ _)]
  have h0 : b + 1 * 0 = b := by omega
  exact congrArg ix1 (Fin.ext h0)

section
variable (x0 : Vec Ideal S2x1024x8192 .fp8e4m3) (x1 : Vec Ideal S2x1024x1 .f32) (x2 : Vec Ideal S2x256x1 .i32) (x3 : Vec Ideal S2x1024x256 .f32) (x4 : Vec Ideal S2 .i32) (x5 : Vec Ideal S2 .f32)
    (b : Fin 2) (X : Vec Ideal S1x1024x8192 .fp8e4m3) (A : Vec Ideal S1x1024x1 .f32) (L : Vec Ideal S1x256x1 .i32) (Γ : Vec Ideal S1x1024x256 .f32) (n : BitVec 32) (w : EReal)
    (hX : ∀ s d, X (ix3 0 s d) = x0 (ix3 b s d)) (hA : ∀ s d, A (ix3 0 s d) = x1 (ix3 b s d)) (hL : ∀ k d, L (ix3 0 k d) = x2 (ix3 b k d)) (hΓ : ∀ s k, Γ (ix3 0 s k) = x3 (ix3 b s k))
    (hn : n = x4 (ix1 b)) (hw : w = x5 (ix1 b))
include hX hA hL hΓ hn hw
theorem code_of (s : Fin 1024) (d : Fin 8192) : k0_pay2 (F := Ideal) (k0_pay11 X A L Γ n w) (k0_pay12 X A L Γ n w) (ix3 0 s d) = rowCode x0 x1 x2 x3 x4 x5 b s d := by
  subst hn hw
  rw [body_code]
  unfold rowCode
  simp only [hX, hA, hL, hΓ]
theorem scale_of (s : Fin 1024) (e : Fin 128) : k0_pay3 (F := Ideal) (k0_pay12 X A L Γ n w) (ix3 0 s e) = rowScale x0 x1 x2 x3 x4 x5 b s := by
  subst hn hw
  rw [body_scale]
  unfold rowScale
  simp only [hX, hA, hL, hΓ]
end

section
variable (c : Dev nD) (arg0 : Memref sig .tc .vmem S2x1024x8192 .fp8e4m3) (harg0 : arg0.IsWhole) (arg1 : Memref sig .tc .vmem S2x1024x1 .f32) (harg1 : arg1.IsWhole) (arg2 : Memref sig .tc .vmem S2x256x1 .i32) (harg2 : arg2.IsWhole) (arg3 : Memref sig .tc .vmem S2x1024x256 .f32) (harg3 : arg3.IsWhole) (arg4 : Memref sig .tc .smem S2 .i32) (harg4 : arg4.IsWhole) (arg5 : Memref sig .tc .smem S2 .f32) (harg5 : arg5.IsWhole) (arg6 : Memref sig .tc .vmem S2x1024x8192 .fp8e5m2) (harg6 : arg6.IsWhole) (arg7 : Memref sig .tc .vmem S2x1024x128 .f32) (harg7 : arg7.IsWhole)
    (x0 : Vec Ideal S2x1024x8192 .fp8e4m3) (x1 : Vec Ideal S2x1024x1 .f32) (x2 : Vec Ideal S2x256x1 .i32) (x3 : Vec Ideal S2x1024x256 .f32) (x4 : Vec Ideal S2 .i32) (x5 : Vec Ideal S2 .f32)

theorem pieces6 : View.PiecesOf (fun y : S2x1024x8192.Idx => (rowCode x0 x1 x2 x3 x4 x5 (y 0) (y 1) (y 2) : Elt Ideal .fp8e5m2))
    (kernelRun0_A (F := Ideal) c arg0 harg0 arg1 harg1 arg2 harg2 arg3 harg3 arg4 harg4 arg5 harg5 arg6 harg6 arg7 harg7 x0 x1 x2 x3 x4 x5).1 := by
  unfold kernelRun0_A
  dsimp only
  refine ⟨fun j => ?_, fun j => ?_, trivial⟩
  · obtain ⟨s, d, rfl⟩ : ∃ (s : Fin 1024) (d : Fin 8192), j = ix3 (0 : Fin 1) s d :=
      ⟨j 1, j 2, (eq_ix3 j).trans (congrArg (fun z : Fin 1 => ix3 z (j 1 : Fin 1024) (j 2 : Fin 8192)) (Subsingleton.elim _ _))⟩
    refine (code_of x0 x1 x2 x3 x4 x5 (⟨1, by decide⟩ : Fin 2) _ _ _ _ _ _ (ld0 1 (by decide) _ arg0 harg0 x0) (ld1 1 (by decide) _ arg1 harg1 x1) (ld2 1 (by decide) _ arg2 harg2 x2) (ld3 1 (by decide) _ arg3 harg3 x3) (wd4 1 (by decide) _ arg4 harg4 x4 _) (wd5 1 (by decide) _ arg5 harg5 x5 _) s d).trans ?_
    have he : (Rect.unit (s := S2x1024x8192) ![1, 0, 0] S1x1024x8192.size inb_S2x1024x8192_S1x1024x8192_1_0_0).emb (ix3 (0 : Fin 1) s d) = ix3 (⟨1, by decide⟩ : Fin 2) s d := by
      rw [eq_ix3 (Rect.emb _ _)]
      have h0 : 1 + 1 * 0 = 1 := by omega
      have h1 : 0 + 1 * s.val = s.val := by omega
      have h2 : 0 + 1 * d.val = d.val := by omega
      exact congrArg₃ ix3 (Fin.ext h0) (Fin.ext h1) (Fin.ext h2)
    exact (congrArg (fun y : S2x1024x8192.Idx => rowCode x0 x1 x2 x3 x4 x5 (y 0) (y 1) (y 2)) he).symm
  · obtain ⟨s, d, rfl⟩ : ∃ (s : Fin 1024) (d : Fin 8192), j = ix3 (0 : Fin 1) s d :=
      ⟨j 1, j 2, (eq_ix3 j).trans (congrArg (fun z : Fin 1 => ix3 z (j 1 : Fin 1024) (j 2 : Fin 8192)) (Subsingleton.elim _ _))⟩
    refine (code_of x0 x1 x2 x3 x4 x5 (⟨0, by decide⟩ : Fin 2) _ _ _ _ _ _ (ld0 0 (by decide) _ arg0 harg0 x0) (ld1 0 (by decide) _ arg1 harg1 x1) (ld2 0 (by decide) _ arg2 harg2 x2) (ld3 0 (by decide) _ arg3 harg3 x3) (wd4 0 (by decide) _ arg4 harg4 x4 _) (wd5 0 (by decide) _ arg5 harg5 x5 _) s d).trans ?_
    have he : (Rect.unit (s := S2x1024x8192) ![0, 0, 0] S1x1024x8192.size inb_S2x1024x8192_S1x1024x8192_0_0_0).emb (ix3 (0 : Fin 1) s d) = ix3 (⟨0, by decide⟩ : Fin 2) s d := by
      rw [eq_ix3 (Rect.emb _ _)]
      have h0 : 0 + 1 * 0 = 0 := by omega
      have h1 : 0 + 1 * s.val = s.val := by omega
      have h2 : 0 + 1 * d.val = d.val := by omega
      exact congrArg₃ ix3 (Fin.ext h0) (Fin.ext h1) (Fin.ext h2)
    exact (congrArg (fun y : S2x1024x8192.Idx => rowCode x0 x1 x2 x3 x4 x5 (y 0) (y 1) (y 2)) he).symm
theorem pieces7 : View.PiecesOf (fun y : S2x1024x128.Idx => (rowScale x0 x1 x2 x3 x4 x5 (y 0) (y 1) : Elt Ideal .f32))
    (kernelRun0_A (F := Ideal) c arg0 harg0 arg1 harg1 arg2 harg2 arg3 harg3 arg4 harg4 arg5 harg5 arg6 harg6 arg7 harg7 x0 x1 x2 x3 x4 x5).2.1 := by
  unfold kernelRun0_A
  dsimp only
  refine ⟨fun j => ?_, fun j => ?_, trivial⟩
  · obtain ⟨s, d, rfl⟩ : ∃ (s : Fin 1024) (d : Fin 128), j = ix3 (0 : Fin 1) s d :=
      ⟨j 1, j 2, (eq_ix3 j).trans (congrArg (fun z : Fin 1 => ix3 z (j 1 : Fin 1024) (j 2 : Fin 128)) (Subsingleton.elim _ _))⟩
    refine (scale_of x0 x1 x2 x3 x4 x5 (⟨1, by decide⟩ : Fin 2) _ _ _ _ _ _ (ld0 1 (by decide) _ arg0 harg0 x0) (ld1 1 (by decide) _ arg1 harg1 x1) (ld2 1 (by decide) _ arg2 harg2 x2) (ld3 1 (by decide) _ arg3 harg3 x3) (wd4 1 (by decide) _ arg4 harg4 x4 _) (wd5 1 (by decide) _ arg5 harg5 x5 _) s d).trans ?_
    have he : (Rect.unit (s := S2x1024x128) ![1, 0, 0] S1x1024x128.size inb_S2x1024x128_S1x1024x128_1_0_0).emb (ix3 (0 : Fin 1) s d) = ix3 (⟨1, by decide⟩ : Fin 2) s d := by
      rw [eq_ix3 (Rect.emb _ _)]
      have h0 : 1 + 1 * 0 = 1 := by omega
      have h1 : 0 + 1 * s.val = s.val := by omega
      have h2 : 0 + 1 * d.val = d.val := by omega
      exact congrArg₃ ix3 (Fin.ext h0) (Fin.ext h1) (Fin.ext h2)
    exact (congrArg (fun y : S2x1024x128.Idx => rowScale x0 x1 x2 x3 x4 x5 (y 0) (y 1)) he).symm
  · obtain ⟨s, d, rfl⟩ : ∃ (s : Fin 1024) (d : Fin 128), j = ix3 (0 : Fin 1) s d :=
      ⟨j 1, j 2, (eq_ix3 j).trans (congrArg (fun z : Fin 1 => ix3 z (j 1 : Fin 1024) (j 2 : Fin 128)) (Subsingleton.elim _ _))⟩
    refine (scale_of x0 x1 x2 x3 x4 x5 (⟨0, by decide⟩ : Fin 2) _ _ _ _ _ _ (ld0 0 (by decide) _ arg0 harg0 x0) (ld1 0 (by decide) _ arg1 harg1 x1) (ld2 0 (by decide) _ arg2 harg2 x2) (ld3 0 (by decide) _ arg3 harg3 x3) (wd4 0 (by decide) _ arg4 harg4 x4 _) (wd5 0 (by decide) _ arg5 harg5 x5 _) s d).trans ?_
    have he : (Rect.unit (s := S2x1024x128) ![0, 0, 0] S1x1024x128.size inb_S2x1024x128_S1x1024x128_0_0_0).emb (ix3 (0 : Fin 1) s d) = ix3 (⟨0, by decide⟩ : Fin 2) s d := by
      rw [eq_ix3 (Rect.emb _ _)]
      have h0 : 0 + 1 * 0 = 0 := by omega
      have h1 : 0 + 1 * s.val = s.val := by omega
      have h2 : 0 + 1 * d.val = d.val := by omega
      exact congrArg₃ ix3 (Fin.ext h0) (Fin.ext h1) (Fin.ext h2)
    exact (congrArg (fun y : S2x1024x128.Idx => rowScale x0 x1 x2 x3 x4 x5 (y 0) (y 1)) he).symm
theorem out6 (y : S2x1024x8192.Idx) : out0_A_6 (F := Ideal) c arg0 harg0 arg1 harg1 arg2 harg2 arg3 harg3 arg4 harg4 arg5 harg5 arg6 harg6 arg7 harg7 x0 x1 x2 x3 x4 x5 y = rowCode x0 x1 x2 x3 x4 x5 (y 0) (y 1) (y 2) :=
  (View.read_writes_apply_eq_canon _ _ y _ (cover0_A_6 c arg0 harg0 arg1 harg1 arg2 harg2 arg3 harg3 arg4 harg4 arg5 harg5 arg6 harg6 arg7 harg7 x0 x1 x2 x3 x4 x5 y)).trans
    (View.canon_apply_of_pieces (fun y : S2x1024x8192.Idx => (rowCode x0 x1 x2 x3 x4 x5 (y 0) (y 1) (y 2) : Elt Ideal .fp8e5m2)) _ (pieces6 c arg0 harg0 arg1 harg1 arg2 harg2 arg3 harg3 arg4 harg4 arg5 harg5 arg6 harg6 arg7 harg7 x0 x1 x2 x3 x4 x5).mem y (cover0_A_6 c arg0 harg0 arg1 harg1 arg2 harg2 arg3 harg3 arg4 harg4 arg5 harg5 arg6 harg6 arg7 harg7 x0 x1 x2 x3 x4 x5 y))
theorem out7 (y : S2x1024x128.Idx) : out0_A_7 (F := Ideal) c arg0 harg0 arg1 harg1 arg2 harg2 arg3 harg3 arg4 harg4 arg5 harg5 arg6 harg6 arg7 harg7 x0 x1 x2 x3 x4 x5 y = rowScale x0 x1 x2 x3 x4 x5 (y 0) (y 1) :=
  (View.read_writes_apply_eq_canon _ _ y _ (cover0_A_7 c arg0 harg0 arg1 harg1 arg2 harg2 arg3 harg3 arg4 harg4 arg5 harg5 arg6 harg6 arg7 harg7 x0 x1 x2 x3 x4 x5 y)).trans
    (View.canon_apply_of_pieces (fun y : S2x1024x128.Idx => (rowScale x0 x1 x2 x3 x4 x5 (y 0) (y 1) : Elt Ideal .f32)) _ (pieces7 c arg0 harg0 arg1 harg1 arg2 harg2 arg3 harg3 arg4 harg4 arg5 harg5 arg6 harg6 arg7 harg7 x0 x1 x2 x3 x4 x5).mem y (cover0_A_7 c arg0 harg0 arg1 harg1 arg2 harg2 arg3 harg3 arg4 harg4 arg5 harg5 arg6 harg6 arg7 harg7 x0 x1 x2 x3 x4 x5 y))
end

end Cert.ReferenceIdeal.Gen

end
-- ==== Proof.RefArgs.lean ====
/-
  The two arrays the reference leaves, over its arguments.
-/
module

public import proofs.«01_k».proof.Proof.RefOut

@[expose] public section

set_option maxRecDepth 16384

noncomputable section

namespace Cert.ReferenceIdeal.Gen

open Idealize.ShloMosaic Idealize.ShloMosaic.TcCoe Idealize.ShloMosaic.Tactic
open Cert.Row
open Cert.KernelIdeal.Gen (rdAs labOf slotPos gamAt)

variable (m : (ℓ : Loc nD τ sig) → Buf (Elt Ideal) ℓ) (c : Dev nD)

/-- The reference's arguments. -/
abbrev pX : S2x1024x8192.Idx → EReal := rdAs (S2x1024x8192.Idx → EReal) (m (c, Proc.devRef .tc main_arg0))
abbrev pS : S2x1024.Idx → EReal := rdAs (S2x1024.Idx → EReal) (m (c, Proc.devRef .tc main_arg1))
abbrev pLabels : S400.Idx → BitVec 32 := rdAs (S400.Idx → BitVec 32) (m (c, Proc.devRef .tc main_arg2))
abbrev pLens : S2.Idx → BitVec 32 := rdAs (S2.Idx → BitVec 32) (m (c, Proc.devRef .tc main_arg3))
abbrev pLen : S2.Idx → BitVec 32 := rdAs (S2.Idx → BitVec 32) (m (c, Proc.devRef .tc main_arg4))
abbrev pW : S2.Idx → EReal := rdAs (S2.Idx → EReal) (m (c, Proc.devRef .tc main_arg5))
abbrev pGam : S2x1024x256.Idx → EReal := rdAs (S2x1024x256.Idx → EReal) (m (c, Proc.devRef .tc main_arg6))
abbrev pGb : S1024x128.Idx → EReal := rdAs (S1024x128.Idx → EReal) (m (c, Proc.devRef .tc main_arg7))

theorem eLab (b : Fin 2) : (fun k => (V m c main_v37 : Vec Ideal S2x256x1 .i32) (ix3 b k 0)) = fun k => labOf slotPos (pLens m c) (pLabels m c) (ix2 b k) :=
  funext fun k => r_lab (fun r => m (c, r)) b k
theorem eGam (b : Fin 2) (s : Fin 1024) : (fun k => ((V m c main_v35 : Vec Ideal S2x1024x256 .f32) (ix3 b s k) : EReal)) = gamAt (pGam m c) (pGb m c) b s :=
  funext fun k => r_gam (fun r => m (c, r)) b s k
theorem eX (b : Fin 2) (s : Fin 1024) : (fun d => ((V m c main_v0 : Vec Ideal S2x1024x8192 .fp8e4m3) (ix3 b s d) : EReal)) = fun d => pX m c (ix3 b s d) :=
  funext fun d => congrFun (r_x (fun r => m (c, r))) (ix3 b s d)
theorem eS (b : Fin 2) (s : Fin 1024) : ((V m c main_v36 : Vec Ideal S2x1024x1 .f32) (ix3 b s 0) : EReal) = pS m c (ix2 b s) :=
  r_s (fun r => m (c, r)) b s
theorem eLen (b : Fin 2) : (V m c main_arg4 : Vec Ideal S2 .i32) (ix1 b) = pLen m c (ix1 b) := congrFun (V_main_arg4 m c) _
theorem eW (b : Fin 2) : ((V m c main_arg5 : Vec Ideal S2 .f32) (ix1 b) : EReal) = pW m c (ix1 b) := congrFun (V_main_arg5 m c) _

theorem refD_of {x x' : Fin 8192 → EReal} {s s' : EReal} {l l' : Fin 256 → BitVec 32} {γ γ' : Fin 256 → EReal} {w w' : EReal} {n n' : BitVec 32} (t : BitVec 32)
    (hx : x = x') (hs : s = s') (hl : l = l') (hγ : γ = γ') (hw : w = w') (hn : n = n') (d : Fin 8192) :
    refD x s l γ w (t.slt n = true) d = refD x' s' l' γ' w' (t.slt n' = true) d := by
  subst hx hs hl hγ hw hn; rfl
theorem refS_of {x x' : Fin 8192 → EReal} {s s' : EReal} {l l' : Fin 256 → BitVec 32} {γ γ' : Fin 256 → EReal} {w w' : EReal} {n n' : BitVec 32} (t : BitVec 32)
    (hx : x = x') (hs : s = s') (hl : l = l') (hγ : γ = γ') (hw : w = w') (hn : n = n') :
    refS x s l γ w (t.slt n = true) = refS x' s' l' γ' w' (t.slt n' = true) := by
  subst hx hs hl hγ hw hn; rfl

/-- A frame's codes and scale, over the arguments. -/
def pCodes (b : Fin 2) (s : Fin 1024) (d : Fin 8192) : EReal :=
  refD (fun d => pX m c (ix3 b s d)) (pS m c (ix2 b s)) (fun k => labOf slotPos (pLens m c) (pLabels m c) (ix2 b k)) (gamAt (pGam m c) (pGb m c) b s) (pW m c (ix1 b))
    ((BitVec.ofNat 32 s.val).slt (pLen m c (ix1 b)) = true) d
def pScale (b : Fin 2) (s : Fin 1024) : EReal :=
  refS (fun d => pX m c (ix3 b s d)) (pS m c (ix2 b s)) (fun k => labOf slotPos (pLens m c) (pLabels m c) (ix2 b k)) (gamAt (pGam m c) (pGb m c) b s) (pW m c (ix1 b))
    ((BitVec.ofNat 32 s.val).slt (pLen m c (ix1 b)) = true)

theorem codes_args (b : Fin 2) (s : Fin 1024) (d : Fin 8192) :
    rowCode (V m c main_v0) (V m c main_v36) (V m c main_v37) (V m c main_v35) (V m c main_arg4) (V m c main_arg5) b s d = pCodes m c b s d :=
  refD_of _ (eX m c b s) (eS m c b s) (eLab m c b) (eGam m c b s) (eW m c b) (eLen m c b) d
theorem scale_args (b : Fin 2) (s : Fin 1024) :
    rowScale (V m c main_v0) (V m c main_v36) (V m c main_v37) (V m c main_v35) (V m c main_arg4) (V m c main_arg5) b s = pScale m c b s :=
  refS_of _ (eX m c b s) (eS m c b s) (eLab m c b) (eGam m c b s) (eW m c b) (eLen m c b)

end Cert.ReferenceIdeal.Gen

end
-- ==== Proof.RefFinal.lean ====
/-
  The two arrays the reference leaves, over the arrays its body reads.
-/
module

public import proofs.«01_k».proof.Proof.RefOut
public import proofs.«01_k».proof.Proof.Gen.ReferenceIdeal.Value
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Cert.Row

theorem at0 : ∀ t : Fin cfg0.N, win0_0.index t = ![0, 0, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0, 0] := (by decide +kernel : ∀ t : Fin grid0.N, _)
theorem at4 : ∀ t : Fin cfg0.N, win0_4.index t = ![0] := (by decide +kernel : ∀ t : Fin grid0.N, _)
theorem at5 : ∀ t : Fin cfg0.N, win0_5.index t = ![0] := (by decide +kernel : ∀ t : Fin grid0.N, _)
theorem at6 : ∀ t : Fin cfg0.N, win0_6.index t = ![0, 0, 0] := (by decide +kernel : ∀ t : Fin grid0.N, _)
theorem at7 : ∀ t : Fin cfg0.N, win0_7.index t = ![0, 0, 0] := (by decide +kernel : ∀ t : Fin grid0.N, _)

section
variable (m : (ℓ : Loc nD τ sig) → Buf (Elt Ideal) ℓ) (c : Dev nD) (t : Fin cfg0.N)
/-- The whole array is staged. -/
theorem blk0 : (iblk m c 0 t : Vec Ideal S2x1024x8192 .fp8e4m3) = (V m c main_v0 : Vec Ideal S2x1024x8192 .fp8e4m3) := by
  funext y
  blk_simp [iblk]
  refine congrArg (V m c main_v0) (a₁ := (win0_0.blk t).view.emb y) ?_
  blk_ext [at0 t]
/-- The whole array is staged. -/
theorem blk1 : (iblk m c 1 t : Vec Ideal S2x1024x1 .f32) = (V m c main_v36 : Vec Ideal S2x1024x1 .f32) := by
  funext y
  blk_simp [iblk]
  refine congrArg (V m c main_v36) (a₁ := (win0_1.blk t).view.emb y) ?_
  blk_ext [at1 t]
/-- The whole array is staged. -/
theorem blk2 : (iblk m c 2 t : Vec Ideal S2x256x1 .i32) = (V m c main_v37 : Vec Ideal S2x256x1 .i32) := by
  funext y
  blk_simp [iblk]
  refine congrArg (V m c main_v37) (a₁ := (win0_2.blk t).view.emb y) ?_
  blk_ext [at2 t]
/-- The whole array is staged. -/
theorem blk3 : (iblk m c 3 t : Vec Ideal S2x1024x256 .f32) = (V m c main_v35 : Vec Ideal S2x1024x256 .f32) := by
  funext y
  blk_simp [iblk]
  refine congrArg (V m c main_v35) (a₁ := (win0_3.blk t).view.emb y) ?_
  blk_ext [at3 t]
/-- The whole array is staged. -/
theorem blk4 : (iblk m c 4 t : Vec Ideal S2 .i32) = (V m c main_arg4 : Vec Ideal S2 .i32) := by
  funext y
  blk_simp [iblk]
  refine congrArg (V m c main_arg4) (a₁ := (win0_4.blk t).view.emb y) ?_
  blk_ext [at4 t]
/-- The whole array is staged. -/
theorem blk5 : (iblk m c 5 t : Vec Ideal S2 .f32) = (V m c main_arg5 : Vec Ideal S2 .f32) := by
  funext y
  blk_simp [iblk]
  refine congrArg (V m c main_arg5) (a₁ := (win0_5.blk t).view.emb y) ?_
  blk_ext [at5 t]

/-- The codes the reference leaves, -/
theorem final6 : (dats m 0 c).arrAt 6 cfg0.N = fun y : S2x1024x8192.Idx => (rowCode (V m c main_v0) (V m c main_v36) (V m c main_v37) (V m c main_v35) (V m c main_arg4) (V m c main_arg5) (y 0) (y 1) (y 2) : Elt Ideal .fp8e5m2) := by
  refine (dats m 0 c).arrAt_eq_of_covers 6 _ (by decide +kernel) fun t hf y => ?_
  blk_simp
  rw [after0_6]
  have he : (win0_6.blk t).view.emb y = y := by blk_ext [at6 t]
  rw [he]
  unfold outsAt0
  dsimp only
  rw [out6, blk0, blk1, blk2, blk3, blk4, blk5]
/-- and the scales. -/
theorem final7 : (dats m 0 c).arrAt 7 cfg0.N = fun y : S2x1024x128.Idx => (rowScale (V m c main_v0) (V m c main_v36) (V m c main_v37) (V m c main_v35) (V m c main_arg4) (V m c main_arg5) (y 0) (y 1) : Elt Ideal .f32) := by
  refine (dats m 0 c).arrAt_eq_of_covers 7 _ (by decide +kernel) fun t hf y => ?_
  blk_simp
  rw [after0_7]
  have he : (win0_7.blk t).view.emb y = y := by blk_ext [at7 t]
  rw [he]
  unfold outsAt0
  dsimp only
  rw [out7, blk0, blk1, blk2, blk3, blk4, blk5]
end

end Cert.ReferenceIdeal.Gen

end
-- ==== Proof.KerFinal.lean ====
/-
  The two arrays the gradient call leaves are the reference's, row by row.
-/
module

public import proofs.«01_k».proof.Proof.KerRow

@[expose] public section

set_option maxRecDepth 16384

noncomputable section

namespace Cert.KernelIdeal.Gen

open Idealize.ShloMosaic Idealize.ShloMosaic.TcCoe Idealize.ShloMosaic.Tactic
open Cert.Row

variable (m : (ℓ : Loc nD τ sig) → Buf (Elt Ideal) ℓ) (c : Dev nD)

/-- The other arguments. -/
abbrev mLen : S2.Idx → BitVec 32 := rdAs (S2.Idx → BitVec 32) (m (c, Proc.devRef .tc main_arg4))
abbrev mW : S2.Idx → EReal := rdAs (S2.Idx → EReal) (m (c, Proc.devRef .tc main_arg5))
abbrev mGam : S2x1024x256.Idx → EReal := rdAs (S2x1024x256.Idx → EReal) (m (c, Proc.devRef .tc main_arg6))
abbrev mGb : S1024x128.Idx → EReal := rdAs (S1024x128.Idx → EReal) (m (c, Proc.devRef .tc main_arg7))

theorem aLen_eq : aLen m c = mLen m c := V_main_arg4 m c
theorem aW_eq : aW m c = mW m c := V_main_arg5 m c
theorem aGam_eq : aGam m c = mGam m c := V_main_arg6 m c
theorem aGb_eq : aGb m c = mGb m c := V_main_arg7 m c
theorem aX_eq : aX m c = mX m c := (V_tl m c main_v0).trans ((tl_x (V1 m c)).trans (xOf_eq m c))

/-- A frame past its block's dead start is past the clip's end. -/
theorem dead_of_block (n : BitVec 32) (s : Fin 1024) (h : ¬ blockLive n s) : ¬ liveAt n s := by
  intro hl
  apply h
  have hs := s.isLt
  unfold liveAt at hl
  unfold blockLive
  rw [BitVec.slt_iff_toInt_lt] at hl ⊢
  have e1 : (BitVec.ofNat 32 s.val).toInt = s.val := by
    rw [BitVec.toInt_eq_toNat_of_lt (by rw [BitVec.toNat_ofNat]; omega), BitVec.toNat_ofNat]; omega
  have e2 : (BitVec.ofNat 32 (s.val / 128 * 128)).toInt = ((s.val / 128 * 128 : ℕ) : ℤ) := by
    rw [BitVec.toInt_eq_toNat_of_lt (by rw [BitVec.toNat_ofNat]; omega), BitVec.toNat_ofNat]; omega
  rw [e1] at hl
  rw [e2]
  omega

/-- The reference's codes and scale of a frame, over the arguments. -/
def rCodes (b : Fin 2) (s : Fin 1024) (d : Fin 8192) : EReal :=
  refD (fun d => mX m c (ix3 b s d)) (mS m c (ix2 b s)) (labs m c b) (gamAt (mGam m c) (mGb m c) b s) (mW m c (ix1 b)) (liveAt (mLen m c (ix1 b)) s) d
def rScale (b : Fin 2) (s : Fin 1024) : EReal :=
  refS (fun d => mX m c (ix3 b s d)) (mS m c (ix2 b s)) (labs m c b) (gamAt (mGam m c) (mGb m c) b s) (mW m c (ix1 b)) (liveAt (mLen m c (ix1 b)) s)

section
variable (hx : ∀ i, ∃ r : ℝ, mX m c i = (r : EReal)) (hs : ∀ i, ∃ r : ℝ, mS m c i = (r : EReal)) (h0 : ∀ i, 0 ≤ mS m c i) (hl : ∀ j, (mLabels m c j).toInt < 8192)
    (hw : ∀ i, ∃ r : ℝ, mW m c i = (r : EReal)) (hg : ∀ i, ∃ r : ℝ, mGam m c i = (r : EReal)) (hb : ∀ i, ∃ r : ℝ, mGb m c i = (r : EReal))
include hx hs h0 hl hw hg hb

theorem rows_eq (b : Fin 2) (s : Fin 1024) (d : Fin 8192) : kCodes m c b s d = rCodes m c b s d ∧ kScale m c b s = rScale m c b s := by
  choose xr hxr using fun d => hx (ix3 b s d)
  obtain ⟨sr, hsr⟩ := hs (ix2 b s)
  obtain ⟨w, hwr⟩ := hw (ix1 b)
  have hγ : ∀ k, ∃ r : ℝ, gamAt (mGam m c) (mGb m c) b s k = (r : EReal) := by
    intro k
    unfold gamAt
    split_ifs
    · exact hb _
    · exact hb _
    · exact hg _
  choose γr hγr using hγ
  have hp : 0 ≤ sr := by
    have := h0 (ix2 b s)
    rw [hsr] at this
    exact EReal.coe_nonneg.mp this
  have G := given m c b s xr sr γr hxr hsr hp hl
  have R := G.row_eq w (liveAt (mLen m c (ix1 b)) s) d
  have ex : (fun d => mX m c (ix3 b s d)) = fun d => (xr d : EReal) := funext hxr
  have eγ : gamAt (mGam m c) (mGb m c) b s = fun k => (γr k : EReal) := funext hγr
  have eW : aW m c (ix1 b) = (w : EReal) := (congrFun (aW_eq m c) _).trans hwr
  unfold kCodes kScale rCodes rScale
  rw [aX_eq, aLen_eq, aGam_eq, aGb_eq, eW, ex, eγ, hsr, hwr]
  exact R

theorem codes_eq : gCodes m c = fun y => rCodes m c (y 0) (y 1) (y 2) := by
  funext y
  unfold gCodes
  split_ifs with h
  · exact (rows_eq m c hx hs h0 hl hw hg hb _ _ _).1
  · have hd := dead_of_block _ _ h
    rw [aLen_eq] at hd
    exact (ref_dead _ _ _ _ _ _ hd _).1.symm
theorem scales_eq : gScale m c = fun y => rScale m c (y 0) (y 1) := by
  funext y
  unfold gScale
  split_ifs with h
  · exact (rows_eq m c hx hs h0 hl hw hg hb _ _ 0).2
  · have hd := dead_of_block _ _ h
    rw [aLen_eq] at hd
    exact (ref_dead _ _ _ _ _ _ hd 0).2.symm
end

end Cert.KernelIdeal.Gen

end
-- ==== Proof.Final.lean ====
/-
  Both programs leave the same arrays.
-/
module

public import proofs.«01_k».proof.Proof.RefArgs
public import proofs.«01_k».proof.Proof.RefFinal
public import proofs.«01_k».proof.Proof.KerFinal
public import proofs.«01_k».proof.Proof.PreOk

@[expose] public section

set_option maxRecDepth 16384

noncomputable section

namespace Cert.KernelIdeal.Gen

open Idealize.ShloMosaic Idealize.ShloMosaic.TcCoe Idealize.ShloMosaic.Tactic
open Cert.Row

variable (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)

section
variable (h0 : Cert.ReferenceIdeal.Gen.pX m' c = mX m c) (h1 : Cert.ReferenceIdeal.Gen.pS m' c = mS m c) (h2 : Cert.ReferenceIdeal.Gen.pLabels m' c = mLabels m c) (h3 : Cert.ReferenceIdeal.Gen.pLens m' c = mLens m c) (h4 : Cert.ReferenceIdeal.Gen.pLen m' c = mLen m c) (h5 : Cert.ReferenceIdeal.Gen.pW m' c = mW m c) (h6 : Cert.ReferenceIdeal.Gen.pGam m' c = mGam m c) (h7 : Cert.ReferenceIdeal.Gen.pGb m' c = mGb m c)
include h0 h1 h2 h3 h4 h5 h6 h7
theorem args_codes (b : Fin 2) (s : Fin 1024) (d : Fin 8192) : Cert.ReferenceIdeal.Gen.pCodes m' c b s d = rCodes m c b s d := by
  unfold Cert.ReferenceIdeal.Gen.pCodes rCodes
  rw [h0, h1, h2, h3, h4, h5, h6, h7]
theorem args_scale (b : Fin 2) (s : Fin 1024) : Cert.ReferenceIdeal.Gen.pScale m' c b s = rScale m c b s := by
  unfold Cert.ReferenceIdeal.Gen.pScale rScale
  rw [h0, h1, h2, h3, h4, h5, h6, h7]
theorem left_codes : (Cert.ReferenceIdeal.Gen.dats m' 0 c).arrAt 6 Cert.ReferenceIdeal.cfg0.N = fun y : S2x1024x8192.Idx => (rCodes m c (y 0) (y 1) (y 2) : Elt Ideal .fp8e5m2) :=
  (Cert.ReferenceIdeal.Gen.final6 m' c).trans (funext fun y =>
    (Cert.ReferenceIdeal.Gen.codes_args m' c _ _ _).trans (args_codes m m' c h0 h1 h2 h3 h4 h5 h6 h7 _ _ _))
theorem left_scale : (Cert.ReferenceIdeal.Gen.dats m' 0 c).arrAt 7 Cert.ReferenceIdeal.cfg0.N = fun y : S2x1024x128.Idx => (rScale m c (y 0) (y 1) : Elt Ideal .f32) :=
  (Cert.ReferenceIdeal.Gen.final7 m' c).trans (funext fun y =>
    (Cert.ReferenceIdeal.Gen.scale_args m' c _ _).trans (args_scale m m' c h0 h1 h2 h3 h4 h5 h6 h7 _ _))
end

section
variable (h : Cert.Pre_ok.fn (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) = fun _ => 1#1)
include h
theorem right_codes : (dats m 0 c).arrAt 11 cfg0.N = fun y : S2x1024x8192.Idx => (rCodes m c (y 0) (y 1) (y 2) : Elt Ideal .fp8e5m2) := by
  obtain ⟨hx, hs, h0, hl, hw, hg, hb⟩ := Cert.Pre_ok.Gen.read _ _ _ _ _ _ _ _ h
  exact (final_codes m c).trans (codes_eq m c hx hs h0 hl hw hg hb)
theorem right_scale : (dats m 0 c).arrAt 12 cfg0.N = fun y : S2x1024x128.Idx => (rScale m c (y 0) (y 1) : Elt Ideal .f32) := by
  obtain ⟨hx, hs, h0, hl, hw, hg, hb⟩ := Cert.Pre_ok.Gen.read _ _ _ _ _ _ _ _ h
  exact (final_scale m c).trans (scales_eq m c hx hs h0 hl hw hg hb)
end

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.GradFrame
public import proofs.«01_k».proof.Proof.GradBitsFrame
public import proofs.«01_k».proof.Proof.PreOk
public import proofs.«01_k».proof.Proof.Final
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem preserves : preserves_Kernel_KernelIdeal :=
  ⟨IdealRules.named_const.statement _ _ _ _ _ rfl, IdealRules.named_const.statement _ _ _ _ _ rfl⟩

theorem algebraic : algebraic_KernelIdeal_ReferenceIdeal_pre_ok := by
  intro m g m' g' hpre h
  refine ⟨fun c => (Cert.KernelIdeal.Gen.dats m 0 c).arrAt 11 Cert.KernelIdeal.cfg0.N, fun c => (Cert.KernelIdeal.Gen.dats m 0 c).arrAt 12 Cert.KernelIdeal.cfg0.N, ?_, ?_⟩
  · refine θ_run_mono (θ_run_and (Cert.KernelIdeal.Gen.run_main m g) (Cert.KernelIdeal.Gen.unchanged m g)) fun r hr c => ?_
    exact ⟨(hr.1 c).1 11, (hr.1 c).1 12, hr.2 c⟩
  · refine θ_run_mono (Cert.ReferenceIdeal.Value.run_blocks m' g') fun r hr c => ?_
    have e0 := Cert.KernelIdeal.Gen.left_codes m m' c (h c).1 (h c).2.1 (h c).2.2.1 (h c).2.2.2.1 (h c).2.2.2.2.1 (h c).2.2.2.2.2.1 (h c).2.2.2.2.2.2.1 (h c).2.2.2.2.2.2.2
    have e1 := Cert.KernelIdeal.Gen.left_scale m m' c (h c).1 (h c).2.1 (h c).2.2.1 (h c).2.2.2.1 (h c).2.2.2.2.1 (h c).2.2.2.2.2.1 (h c).2.2.2.2.2.2.1 (h c).2.2.2.2.2.2.2
    have d0 := Cert.KernelIdeal.Gen.right_codes m c (hpre c)
    have d1 := Cert.KernelIdeal.Gen.right_scale m c (hpre c)
    exact ⟨(hr c).1.trans (e0.trans d0.symm), (hr c).2.1.trans (e1.trans d1.symm), (hr c).2.2⟩

theorem claim : Cert.Claim := ⟨Cert.Kernel.Gen.facts, Cert.KernelIdeal.Gen.facts, Cert.ReferenceIdeal.Gen.facts, Cert.Pre_ok.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, preserves, algebraic⟩

end Cert.Proof

end
